-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 1024]⟩ ⟨2, ![1024, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 128]⟩ ⟨2, ![1024, 1024]⟩ 1 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 128]⟩ ⟨2, ![1024, 1024]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x1024 : Shape := ⟨2, ![128, 1024]⟩
abbrev S1024x128 : Shape := ⟨2, ![1024, 128]⟩
abbrev S1024x1024 : Shape := ⟨2, ![1024, 1024]⟩
abbrev S5 : Shape := ⟨1, ![5]⟩
abbrev S4 : Shape := ⟨1, ![4]⟩
abbrev S2 : Shape := ⟨1, ![2]⟩
abbrev S15 : Shape := ⟨1, ![15]⟩
abbrev S1 : Shape := ⟨1, ![1]⟩
abbrev S_ : Shape := ⟨0, ![]⟩
abbrev S64x1024 : Shape := ⟨2, ![64, 1024]⟩
abbrev S128x128 : Shape := ⟨2, ![128, 128]⟩
abbrev S64x128 : Shape := ⟨2, ![64, 128]⟩

abbrev nBuf : Space → Nat
  | .hbm => 3
  | .vmem => 3
  | .smem => 0
  | _ => 0

abbrev bufTy : (tb : Table) → Fin (tcTables nBuf tb) → BufTy
  | .hbm, ⟨0, _⟩ => ⟨S128x1024, .f32⟩
  | .hbm, ⟨1, _⟩ => ⟨S1024x128, .f32⟩
  | .hbm, ⟨2, _⟩ => ⟨S1024x128, .f32⟩
  | .local _ .vmem, ⟨0, _⟩ => ⟨S1024x1024, .f32⟩
  | .local _ .vmem, ⟨1, _⟩ => ⟨S1024x128, .f32⟩
  | .local _ .vmem, ⟨2, _⟩ => ⟨S1024x128, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  (ofTc nBuf bufTy 1 45 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev barrier0 : Sem sig := 0

abbrev nD : Nat := 8
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32 : BitVec 32 := 128#32
  let v28 : BitVec 32 := Scalar.muli v2 c128_i32
  let c0_i32_15 : BitVec 32 := 0#32
  ![v28.toNat, 0]
def k0_dev1 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_6 : BitVec 32 := 1#32
  let v15 : BitVec 32 := Scalar.subi v5 c1_i32_6
  let c16_i32_7 : BitVec 32 := 16#32
  let v16 : BitVec 32 := Scalar.addi v15 c16_i32_7
  let c8_i32_8 : BitVec 32 := 8#32
  let v17 : BitVec 32 := Scalar.remsi v16 c8_i32_8
  let c4_i32_9 : BitVec 32 := 4#32
  let v18 : BitVec 1 := Scalar.cmpi .slt v17 c4_i32_9
  let c11_i32_10 : BitVec 32 := 11#32
  let v19 : BitVec 32 := Scalar.subi c11_i32_10 v17
  let v20 : BitVec 32 := Scalar.select v18 v17 v19
  let c1_i32_18 : BitVec 32 := 1#32
  let v35 : BitVec 32 := Scalar.muli v20 c1_i32_18
  let v36 : BitVec 32 := Scalar.addi c0_i32_19 v35
  v36.toNat
def k0_dev2 (d0 : Dev nD) : Nat :=
  let c0_i32_22 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_2 : BitVec 32 := 1#32
  let v9 : BitVec 32 := Scalar.addi v5 c1_i32_2
  let c16_i32 : BitVec 32 := 16#32
  let v10 : BitVec 32 := Scalar.addi v9 c16_i32
  let c8_i32_3 : BitVec 32 := 8#32
  let v11 : BitVec 32 := Scalar.remsi v10 c8_i32_3
  let c4_i32_4 : BitVec 32 := 4#32
  let v12 : BitVec 1 := Scalar.cmpi .slt v11 c4_i32_4
  let c11_i32_5 : BitVec 32 := 11#32
  let v13 : BitVec 32 := Scalar.subi c11_i32_5 v11
  let v14 : BitVec 32 := Scalar.select v12 v11 v13
  let c1_i32_21 : BitVec 32 := 1#32
  let v37 : BitVec 32 := Scalar.muli v14 c1_i32_21
  let v38 : BitVec 32 := Scalar.addi c0_i32_22 v37
  v38.toNat
def k0_dev3 (d0 : Dev nD) : Nat :=
  let c0_i32_25 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c3_i32 : BitVec 32 := 3#32
  let c1_i32_1 : BitVec 32 := 1#32
  let c2_i32_0 : BitVec 32 := 2#32
  let c2_i32 : BitVec 32 := 2#32
  let v6 : BitVec 32 := Scalar.remsi v5 c2_i32
  let v7 : BitVec 32 := Scalar.muli c2_i32_0 v6
  let v8 : BitVec 32 := Scalar.subi c1_i32_1 v7
  let v21 : BitVec 32 := Scalar.muli c3_i32 v8
  let v22 : BitVec 32 := Scalar.addi v5 v21
  let c16_i32_11 : BitVec 32 := 16#32
  let v23 : BitVec 32 := Scalar.addi v22 c16_i32_11
  let c8_i32_12 : BitVec 32 := 8#32
  let v24 : BitVec 32 := Scalar.remsi v23 c8_i32_12
  let c4_i32_13 : BitVec 32 := 4#32
  let v25 : BitVec 1 := Scalar.cmpi .slt v24 c4_i32_13
  let c11_i32_14 : BitVec 32 := 11#32
  let v26 : BitVec 32 := Scalar.subi c11_i32_14 v24
  let v27 : BitVec 32 := Scalar.select v25 v24 v26
  let c1_i32_24 : BitVec 32 := 1#32
  let v39 : BitVec 32 := Scalar.muli v27 c1_i32_24
  let v40 : BitVec 32 := Scalar.addi c0_i32_25 v39
  v40.toNat
def k0_off2 (d0 : Dev nD) (c0_i32_27 : BitVec 32) : Fin 2 → Nat :=
  let c2_i32_32 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v41 : BitVec 32 := Scalar.subi v5 c0_i32_27
  let c16_i32_28 : BitVec 32 := 16#32
  let v42 : BitVec 32 := Scalar.addi v41 c16_i32_28
  let c8_i32_29 : BitVec 32 := 8#32
  let v43 : BitVec 32 := Scalar.remsi v42 c8_i32_29
  let c4_i32_30 : BitVec 32 := 4#32
  let v44 : BitVec 1 := Scalar.cmpi .slt v43 c4_i32_30
  let c11_i32_31 : BitVec 32 := 11#32
  let v45 : BitVec 32 := Scalar.subi c11_i32_31 v43
  let v46 : BitVec 32 := Scalar.select v44 v43 v45
  let v47 : BitVec 32 := Scalar.muli c2_i32_32 v46
  let c64_i32_190 : BitVec 32 := 64#32
  let v241 : BitVec 32 := Scalar.muli v47 c64_i32_190
  let c0_i32_195 : BitVec 32 := 0#32
  ![v241.toNat, 0]
def k0_dev4 (d0 : Dev nD) : Nat :=
  let c0_i32_194 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_2 : BitVec 32 := 1#32
  let v9 : BitVec 32 := Scalar.addi v5 c1_i32_2
  let c16_i32 : BitVec 32 := 16#32
  let v10 : BitVec 32 := Scalar.addi v9 c16_i32
  let c8_i32_3 : BitVec 32 := 8#32
  let v11 : BitVec 32 := Scalar.remsi v10 c8_i32_3
  let c4_i32_4 : BitVec 32 := 4#32
  let v12 : BitVec 1 := Scalar.cmpi .slt v11 c4_i32_4
  let c11_i32_5 : BitVec 32 := 11#32
  let v13 : BitVec 32 := Scalar.subi c11_i32_5 v11
  let v14 : BitVec 32 := Scalar.select v12 v11 v13
  let c1_i32_193 : BitVec 32 := 1#32
  let v242 : BitVec 32 := Scalar.muli v14 c1_i32_193
  let v243 : BitVec 32 := Scalar.addi c0_i32_194 v242
  v243.toNat
def k0_off3 (d0 : Dev nD) (c0_i32_33 : BitVec 32) : Fin 2 → Nat :=
  let c2_i32_38 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v48 : BitVec 32 := Scalar.subi v5 c0_i32_33
  let c16_i32_34 : BitVec 32 := 16#32
  let v49 : BitVec 32 := Scalar.addi v48 c16_i32_34
  let c8_i32_35 : BitVec 32 := 8#32
  let v50 : BitVec 32 := Scalar.remsi v49 c8_i32_35
  let c4_i32_36 : BitVec 32 := 4#32
  let v51 : BitVec 1 := Scalar.cmpi .slt v50 c4_i32_36
  let c11_i32_37 : BitVec 32 := 11#32
  let v52 : BitVec 32 := Scalar.subi c11_i32_37 v50
  let v53 : BitVec 32 := Scalar.select v51 v50 v52
  let v54 : BitVec 32 := Scalar.muli c2_i32_38 v53
  let c1_i32_39 : BitVec 32 := 1#32
  let v55 : BitVec 32 := Scalar.addi v54 c1_i32_39
  let c64_i32_198 : BitVec 32 := 64#32
  let v251 : BitVec 32 := Scalar.muli v55 c64_i32_198
  let c0_i32_203 : BitVec 32 := 0#32
  ![v251.toNat, 0]
def k0_dev5 (d0 : Dev nD) : Nat :=
  let c0_i32_202 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_2 : BitVec 32 := 1#32
  let v9 : BitVec 32 := Scalar.addi v5 c1_i32_2
  let c16_i32 : BitVec 32 := 16#32
  let v10 : BitVec 32 := Scalar.addi v9 c16_i32
  let c8_i32_3 : BitVec 32 := 8#32
  let v11 : BitVec 32 := Scalar.remsi v10 c8_i32_3
  let c4_i32_4 : BitVec 32 := 4#32
  let v12 : BitVec 1 := Scalar.cmpi .slt v11 c4_i32_4
  let c11_i32_5 : BitVec 32 := 11#32
  let v13 : BitVec 32 := Scalar.subi c11_i32_5 v11
  let v14 : BitVec 32 := Scalar.select v12 v11 v13
  let c1_i32_201 : BitVec 32 := 1#32
  let v252 : BitVec 32 := Scalar.muli v14 c1_i32_201
  let v253 : BitVec 32 := Scalar.addi c0_i32_202 v252
  v253.toNat
def k0_off4 (d0 : Dev nD) (c0_i32_91 : BitVec 32) : Fin 2 → Nat :=
  let c2_i32_96 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v115 : BitVec 32 := Scalar.addi v5 c0_i32_91
  let c16_i32_92 : BitVec 32 := 16#32
  let v116 : BitVec 32 := Scalar.addi v115 c16_i32_92
  let c8_i32_93 : BitVec 32 := 8#32
  let v117 : BitVec 32 := Scalar.remsi v116 c8_i32_93
  let c4_i32_94 : BitVec 32 := 4#32
  let v118 : BitVec 1 := Scalar.cmpi .slt v117 c4_i32_94
  let c11_i32_95 : BitVec 32 := 11#32
  let v119 : BitVec 32 := Scalar.subi c11_i32_95 v117
  let v120 : BitVec 32 := Scalar.select v118 v117 v119
  let v121 : BitVec 32 := Scalar.muli c2_i32_96 v120
  let c1_i32_97 : BitVec 32 := 1#32
  let v122 : BitVec 32 := Scalar.addi v121 c1_i32_97
  let c64_i32_206 : BitVec 32 := 64#32
  let v261 : BitVec 32 := Scalar.muli v122 c64_i32_206
  let c0_i32_211 : BitVec 32 := 0#32
  ![v261.toNat, 0]
def k0_dev6 (d0 : Dev nD) : Nat :=
  let c0_i32_210 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_6 : BitVec 32 := 1#32
  let v15 : BitVec 32 := Scalar.subi v5 c1_i32_6
  let c16_i32_7 : BitVec 32 := 16#32
  let v16 : BitVec 32 := Scalar.addi v15 c16_i32_7
  let c8_i32_8 : BitVec 32 := 8#32
  let v17 : BitVec 32 := Scalar.remsi v16 c8_i32_8
  let c4_i32_9 : BitVec 32 := 4#32
  let v18 : BitVec 1 := Scalar.cmpi .slt v17 c4_i32_9
  let c11_i32_10 : BitVec 32 := 11#32
  let v19 : BitVec 32 := Scalar.subi c11_i32_10 v17
  let v20 : BitVec 32 := Scalar.select v18 v17 v19
  let c1_i32_209 : BitVec 32 := 1#32
  let v262 : BitVec 32 := Scalar.muli v20 c1_i32_209
  let v263 : BitVec 32 := Scalar.addi c0_i32_210 v262
  v263.toNat
def k0_off5 (d0 : Dev nD) (c0_i32_98 : BitVec 32) : Fin 2 → Nat :=
  let c2_i32_103 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v123 : BitVec 32 := Scalar.addi v5 c0_i32_98
  let c16_i32_99 : BitVec 32 := 16#32
  let v124 : BitVec 32 := Scalar.addi v123 c16_i32_99
  let c8_i32_100 : BitVec 32 := 8#32
  let v125 : BitVec 32 := Scalar.remsi v124 c8_i32_100
  let c4_i32_101 : BitVec 32 := 4#32
  let v126 : BitVec 1 := Scalar.cmpi .slt v125 c4_i32_101
  let c11_i32_102 : BitVec 32 := 11#32
  let v127 : BitVec 32 := Scalar.subi c11_i32_102 v125
  let v128 : BitVec 32 := Scalar.select v126 v125 v127
  let v129 : BitVec 32 := Scalar.muli c2_i32_103 v128
  let c64_i32_214 : BitVec 32 := 64#32
  let v271 : BitVec 32 := Scalar.muli v129 c64_i32_214
  let c0_i32_219 : BitVec 32 := 0#32
  ![v271.toNat, 0]
def k0_dev7 (d0 : Dev nD) : Nat :=
  let c0_i32_218 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_6 : BitVec 32 := 1#32
  let v15 : BitVec 32 := Scalar.subi v5 c1_i32_6
  let c16_i32_7 : BitVec 32 := 16#32
  let v16 : BitVec 32 := Scalar.addi v15 c16_i32_7
  let c8_i32_8 : BitVec 32 := 8#32
  let v17 : BitVec 32 := Scalar.remsi v16 c8_i32_8
  let c4_i32_9 : BitVec 32 := 4#32
  let v18 : BitVec 1 := Scalar.cmpi .slt v17 c4_i32_9
  let c11_i32_10 : BitVec 32 := 11#32
  let v19 : BitVec 32 := Scalar.subi c11_i32_10 v17
  let v20 : BitVec 32 := Scalar.select v18 v17 v19
  let c1_i32_217 : BitVec 32 := 1#32
  let v272 : BitVec 32 := Scalar.muli v20 c1_i32_217
  let v273 : BitVec 32 := Scalar.addi c0_i32_218 v272
  v273.toNat
def k0_off6 (d0 : Dev nD) : Fin 2 → Nat :=
  let c2_i32_166 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v204 : BitVec 32 := Scalar.muli c2_i32_166 v2
  let c1_i32_167 : BitVec 32 := 1#32
  let v205 : BitVec 32 := Scalar.addi v204 c1_i32_167
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let v6 : BitVec 32 := Scalar.remsi v5 c2_i32
  let v206 : BitVec 32 := Scalar.subi v205 v6
  let c64_i32_222 : BitVec 32 := 64#32
  let v281 : BitVec 32 := Scalar.muli v206 c64_i32_222
  let c0_i32_227 : BitVec 32 := 0#32
  ![v281.toNat, 0]
def k0_dev8 (d0 : Dev nD) : Nat :=
  let c0_i32_226 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c3_i32 : BitVec 32 := 3#32
  let c1_i32_1 : BitVec 32 := 1#32
  let c2_i32_0 : BitVec 32 := 2#32
  let c2_i32 : BitVec 32 := 2#32
  let v6 : BitVec 32 := Scalar.remsi v5 c2_i32
  let v7 : BitVec 32 := Scalar.muli c2_i32_0 v6
  let v8 : BitVec 32 := Scalar.subi c1_i32_1 v7
  let v21 : BitVec 32 := Scalar.muli c3_i32 v8
  let v22 : BitVec 32 := Scalar.addi v5 v21
  let c16_i32_11 : BitVec 32 := 16#32
  let v23 : BitVec 32 := Scalar.addi v22 c16_i32_11
  let c8_i32_12 : BitVec 32 := 8#32
  let v24 : BitVec 32 := Scalar.remsi v23 c8_i32_12
  let c4_i32_13 : BitVec 32 := 4#32
  let v25 : BitVec 1 := Scalar.cmpi .slt v24 c4_i32_13
  let c11_i32_14 : BitVec 32 := 11#32
  let v26 : BitVec 32 := Scalar.subi c11_i32_14 v24
  let v27 : BitVec 32 := Scalar.select v25 v24 v26
  let c1_i32_225 : BitVec 32 := 1#32
  let v282 : BitVec 32 := Scalar.muli v27 c1_i32_225
  let v283 : BitVec 32 := Scalar.addi c0_i32_226 v282
  v283.toNat
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_230 : BitVec 32 := 128#32
  let v292 : BitVec 32 := Scalar.muli v2 c128_i32_230
  let v293 : Index := Scalar.indexCast v292
  let c0 : Index := 0#32
  ![v293.toNat, 0]
def k0_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_234 : BitVec 32 := 128#32
  let v299 : BitVec 32 := Scalar.muli v2 c128_i32_234
  let v300 : Index := Scalar.indexCast v299
  let c0_235 : Index := 0#32
  ![v300.toNat, 0]
def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_236 : BitVec 32 := 128#32
  let v304 : BitVec 32 := Scalar.muli v2 c128_i32_236
  let c0_i32_238 : BitVec 32 := 0#32
  ![v304.toNat, 0]
def k0_dev9 (d0 : Dev nD) : Nat :=
  let c0_i32_253 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_2 : BitVec 32 := 1#32
  let v9 : BitVec 32 := Scalar.addi v5 c1_i32_2
  let c16_i32 : BitVec 32 := 16#32
  let v10 : BitVec 32 := Scalar.addi v9 c16_i32
  let c8_i32_3 : BitVec 32 := 8#32
  let v11 : BitVec 32 := Scalar.remsi v10 c8_i32_3
  let c4_i32_4 : BitVec 32 := 4#32
  let v12 : BitVec 1 := Scalar.cmpi .slt v11 c4_i32_4
  let c11_i32_5 : BitVec 32 := 11#32
  let v13 : BitVec 32 := Scalar.subi c11_i32_5 v11
  let v14 : BitVec 32 := Scalar.select v12 v11 v13
  let c1_i32_252 : BitVec 32 := 1#32
  let v319 : BitVec 32 := Scalar.muli v14 c1_i32_252
  let v320 : BitVec 32 := Scalar.addi c0_i32_253 v319
  v320.toNat
def k0_dev10 (d0 : Dev nD) : Nat :=
  let c0_i32_269 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_6 : BitVec 32 := 1#32
  let v15 : BitVec 32 := Scalar.subi v5 c1_i32_6
  let c16_i32_7 : BitVec 32 := 16#32
  let v16 : BitVec 32 := Scalar.addi v15 c16_i32_7
  let c8_i32_8 : BitVec 32 := 8#32
  let v17 : BitVec 32 := Scalar.remsi v16 c8_i32_8
  let c4_i32_9 : BitVec 32 := 4#32
  let v18 : BitVec 1 := Scalar.cmpi .slt v17 c4_i32_9
  let c11_i32_10 : BitVec 32 := 11#32
  let v19 : BitVec 32 := Scalar.subi c11_i32_10 v17
  let v20 : BitVec 32 := Scalar.select v18 v17 v19
  let c1_i32_268 : BitVec 32 := 1#32
  let v337 : BitVec 32 := Scalar.muli v20 c1_i32_268
  let v338 : BitVec 32 := Scalar.addi c0_i32_269 v337
  v338.toNat
def k0_off10 (d0 : Dev nD) : Fin 2 → Nat :=
  let c2_i32_168 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_1 : BitVec 32 := 1#32
  let c2_i32_0 : BitVec 32 := 2#32
  let c2_i32 : BitVec 32 := 2#32
  let v6 : BitVec 32 := Scalar.remsi v5 c2_i32
  let v7 : BitVec 32 := Scalar.muli c2_i32_0 v6
  let v8 : BitVec 32 := Scalar.subi c1_i32_1 v7
  let v191 : BitVec 32 := Scalar.subi v5 v8
  let c16_i32_157 : BitVec 32 := 16#32
  let v192 : BitVec 32 := Scalar.addi v191 c16_i32_157
  let c8_i32_158 : BitVec 32 := 8#32
  let v193 : BitVec 32 := Scalar.remsi v192 c8_i32_158
  let c4_i32_159 : BitVec 32 := 4#32
  let v194 : BitVec 1 := Scalar.cmpi .slt v193 c4_i32_159
  let c11_i32_160 : BitVec 32 := 11#32
  let v195 : BitVec 32 := Scalar.subi c11_i32_160 v193
  let v196 : BitVec 32 := Scalar.select v194 v193 v195
  let v207 : BitVec 32 := Scalar.muli c2_i32_168 v196
  let v208 : BitVec 32 := Scalar.addi v207 v6
  let c64_i32_273 : BitVec 32 := 64#32
  let v346 : BitVec 32 := Scalar.muli v208 c64_i32_273
  let c0_i32_278 : BitVec 32 := 0#32
  ![v346.toNat, 0]
def k0_dev11 (d0 : Dev nD) : Nat :=
  let c0_i32_277 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c3_i32 : BitVec 32 := 3#32
  let c1_i32_1 : BitVec 32 := 1#32
  let c2_i32_0 : BitVec 32 := 2#32
  let c2_i32 : BitVec 32 := 2#32
  let v6 : BitVec 32 := Scalar.remsi v5 c2_i32
  let v7 : BitVec 32 := Scalar.muli c2_i32_0 v6
  let v8 : BitVec 32 := Scalar.subi c1_i32_1 v7
  let v21 : BitVec 32 := Scalar.muli c3_i32 v8
  let v22 : BitVec 32 := Scalar.addi v5 v21
  let c16_i32_11 : BitVec 32 := 16#32
  let v23 : BitVec 32 := Scalar.addi v22 c16_i32_11
  let c8_i32_12 : BitVec 32 := 8#32
  let v24 : BitVec 32 := Scalar.remsi v23 c8_i32_12
  let c4_i32_13 : BitVec 32 := 4#32
  let v25 : BitVec 1 := Scalar.cmpi .slt v24 c4_i32_13
  let c11_i32_14 : BitVec 32 := 11#32
  let v26 : BitVec 32 := Scalar.subi c11_i32_14 v24
  let v27 : BitVec 32 := Scalar.select v25 v24 v26
  let c1_i32_276 : BitVec 32 := 1#32
  let v347 : BitVec 32 := Scalar.muli v27 c1_i32_276
  let v348 : BitVec 32 := Scalar.addi c0_i32_277 v347
  v348.toNat
def k0_off11 (d0 : Dev nD) (c1_i32_59 : BitVec 32) : Fin 2 → Nat :=
  let c2_i32_64 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v78 : BitVec 32 := Scalar.subi v5 c1_i32_59
  let c16_i32_60 : BitVec 32 := 16#32
  let v79 : BitVec 32 := Scalar.addi v78 c16_i32_60
  let c8_i32_61 : BitVec 32 := 8#32
  let v80 : BitVec 32 := Scalar.remsi v79 c8_i32_61
  let c4_i32_62 : BitVec 32 := 4#32
  let v81 : BitVec 1 := Scalar.cmpi .slt v80 c4_i32_62
  let c11_i32_63 : BitVec 32 := 11#32
  let v82 : BitVec 32 := Scalar.subi c11_i32_63 v80
  let v83 : BitVec 32 := Scalar.select v81 v80 v82
  let v84 : BitVec 32 := Scalar.muli c2_i32_64 v83
  let c64_i32_280 : BitVec 32 := 64#32
  let v355 : BitVec 32 := Scalar.muli v84 c64_i32_280
  let v356 : Index := Scalar.indexCast v355
  let c0_281 : Index := 0#32
  ![v356.toNat, 0]
def k0_off12 (d0 : Dev nD) (c1_i32_59 : BitVec 32) : Fin 2 → Nat :=
  let c2_i32_64 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v78 : BitVec 32 := Scalar.subi v5 c1_i32_59
  let c16_i32_60 : BitVec 32 := 16#32
  let v79 : BitVec 32 := Scalar.addi v78 c16_i32_60
  let c8_i32_61 : BitVec 32 := 8#32
  let v80 : BitVec 32 := Scalar.remsi v79 c8_i32_61
  let c4_i32_62 : BitVec 32 := 4#32
  let v81 : BitVec 1 := Scalar.cmpi .slt v80 c4_i32_62
  let c11_i32_63 : BitVec 32 := 11#32
  let v82 : BitVec 32 := Scalar.subi c11_i32_63 v80
  let v83 : BitVec 32 := Scalar.select v81 v80 v82
  let v84 : BitVec 32 := Scalar.muli c2_i32_64 v83
  let c64_i32_286 : BitVec 32 := 64#32
  let v362 : BitVec 32 := Scalar.muli v84 c64_i32_286
  let v363 : Index := Scalar.indexCast v362
  let c0_287 : Index := 0#32
  ![v363.toNat, 0]
def k0_off13 (d0 : Dev nD) (c1_i32_59 : BitVec 32) : Fin 2 → Nat :=
  let c2_i32_64 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v78 : BitVec 32 := Scalar.subi v5 c1_i32_59
  let c16_i32_60 : BitVec 32 := 16#32
  let v79 : BitVec 32 := Scalar.addi v78 c16_i32_60
  let c8_i32_61 : BitVec 32 := 8#32
  let v80 : BitVec 32 := Scalar.remsi v79 c8_i32_61
  let c4_i32_62 : BitVec 32 := 4#32
  let v81 : BitVec 1 := Scalar.cmpi .slt v80 c4_i32_62
  let c11_i32_63 : BitVec 32 := 11#32
  let v82 : BitVec 32 := Scalar.subi c11_i32_63 v80
  let v83 : BitVec 32 := Scalar.select v81 v80 v82
  let v84 : BitVec 32 := Scalar.muli c2_i32_64 v83
  let c64_i32_288 : BitVec 32 := 64#32
  let v367 : BitVec 32 := Scalar.muli v84 c64_i32_288
  let c0_i32_290 : BitVec 32 := 0#32
  ![v367.toNat, 0]
def k0_off14 (d0 : Dev nD) (c1_i32_124 : BitVec 32) : Fin 2 → Nat :=
  let c2_i32_129 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v153 : BitVec 32 := Scalar.addi v5 c1_i32_124
  let c16_i32_125 : BitVec 32 := 16#32
  let v154 : BitVec 32 := Scalar.addi v153 c16_i32_125
  let c8_i32_126 : BitVec 32 := 8#32
  let v155 : BitVec 32 := Scalar.remsi v154 c8_i32_126
  let c4_i32_127 : BitVec 32 := 4#32
  let v156 : BitVec 1 := Scalar.cmpi .slt v155 c4_i32_127
  let c11_i32_128 : BitVec 32 := 11#32
  let v157 : BitVec 32 := Scalar.subi c11_i32_128 v155
  let v158 : BitVec 32 := Scalar.select v156 v155 v157
  let v159 : BitVec 32 := Scalar.muli c2_i32_129 v158
  let c1_i32_130 : BitVec 32 := 1#32
  let v160 : BitVec 32 := Scalar.addi v159 c1_i32_130
  let c64_i32_292 : BitVec 32 := 64#32
  let v372 : BitVec 32 := Scalar.muli v160 c64_i32_292
  let v373 : Index := Scalar.indexCast v372
  let c0_293 : Index := 0#32
  ![v373.toNat, 0]
def k0_off15 (d0 : Dev nD) (c1_i32_124 : BitVec 32) : Fin 2 → Nat :=
  let c2_i32_129 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v153 : BitVec 32 := Scalar.addi v5 c1_i32_124
  let c16_i32_125 : BitVec 32 := 16#32
  let v154 : BitVec 32 := Scalar.addi v153 c16_i32_125
  let c8_i32_126 : BitVec 32 := 8#32
  let v155 : BitVec 32 := Scalar.remsi v154 c8_i32_126
  let c4_i32_127 : BitVec 32 := 4#32
  let v156 : BitVec 1 := Scalar.cmpi .slt v155 c4_i32_127
  let c11_i32_128 : BitVec 32 := 11#32
  let v157 : BitVec 32 := Scalar.subi c11_i32_128 v155
  let v158 : BitVec 32 := Scalar.select v156 v155 v157
  let v159 : BitVec 32 := Scalar.muli c2_i32_129 v158
  let c1_i32_130 : BitVec 32 := 1#32
  let v160 : BitVec 32 := Scalar.addi v159 c1_i32_130
  let c64_i32_298 : BitVec 32 := 64#32
  let v379 : BitVec 32 := Scalar.muli v160 c64_i32_298
  let v380 : Index := Scalar.indexCast v379
  let c0_299 : Index := 0#32
  ![v380.toNat, 0]
def k0_off16 (d0 : Dev nD) (c1_i32_124 : BitVec 32) : Fin 2 → Nat :=
  let c2_i32_129 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v153 : BitVec 32 := Scalar.addi v5 c1_i32_124
  let c16_i32_125 : BitVec 32 := 16#32
  let v154 : BitVec 32 := Scalar.addi v153 c16_i32_125
  let c8_i32_126 : BitVec 32 := 8#32
  let v155 : BitVec 32 := Scalar.remsi v154 c8_i32_126
  let c4_i32_127 : BitVec 32 := 4#32
  let v156 : BitVec 1 := Scalar.cmpi .slt v155 c4_i32_127
  let c11_i32_128 : BitVec 32 := 11#32
  let v157 : BitVec 32 := Scalar.subi c11_i32_128 v155
  let v158 : BitVec 32 := Scalar.select v156 v155 v157
  let v159 : BitVec 32 := Scalar.muli c2_i32_129 v158
  let c1_i32_130 : BitVec 32 := 1#32
  let v160 : BitVec 32 := Scalar.addi v159 c1_i32_130
  let c64_i32_300 : BitVec 32 := 64#32
  let v384 : BitVec 32 := Scalar.muli v160 c64_i32_300
  let c0_i32_302 : BitVec 32 := 0#32
  ![v384.toNat, 0]
def k0_off17 (d0 : Dev nD) : Fin 2 → Nat :=
  let c2_i32_177 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c3_i32 : BitVec 32 := 3#32
  let c1_i32_1 : BitVec 32 := 1#32
  let c2_i32_0 : BitVec 32 := 2#32
  let c2_i32 : BitVec 32 := 2#32
  let v6 : BitVec 32 := Scalar.remsi v5 c2_i32
  let v7 : BitVec 32 := Scalar.muli c2_i32_0 v6
  let v8 : BitVec 32 := Scalar.subi c1_i32_1 v7
  let v21 : BitVec 32 := Scalar.muli c3_i32 v8
  let v22 : BitVec 32 := Scalar.addi v5 v21
  let c16_i32_11 : BitVec 32 := 16#32
  let v23 : BitVec 32 := Scalar.addi v22 c16_i32_11
  let c8_i32_12 : BitVec 32 := 8#32
  let v24 : BitVec 32 := Scalar.remsi v23 c8_i32_12
  let c4_i32_13 : BitVec 32 := 4#32
  let v25 : BitVec 1 := Scalar.cmpi .slt v24 c4_i32_13
  let c11_i32_14 : BitVec 32 := 11#32
  let v26 : BitVec 32 := Scalar.subi c11_i32_14 v24
  let v27 : BitVec 32 := Scalar.select v25 v24 v26
  let v220 : BitVec 32 := Scalar.muli c2_i32_177 v27
  let v221 : BitVec 32 := Scalar.addi v220 v6
  let c64_i32_305 : BitVec 32 := 64#32
  let v390 : BitVec 32 := Scalar.muli v221 c64_i32_305
  let c0_i32_310 : BitVec 32 := 0#32
  ![v390.toNat, 0]
def k0_off18 (d0 : Dev nD) : Fin 2 → Nat :=
  let c2_i32_177 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c3_i32 : BitVec 32 := 3#32
  let c1_i32_1 : BitVec 32 := 1#32
  let c2_i32_0 : BitVec 32 := 2#32
  let c2_i32 : BitVec 32 := 2#32
  let v6 : BitVec 32 := Scalar.remsi v5 c2_i32
  let v7 : BitVec 32 := Scalar.muli c2_i32_0 v6
  let v8 : BitVec 32 := Scalar.subi c1_i32_1 v7
  let v21 : BitVec 32 := Scalar.muli c3_i32 v8
  let v22 : BitVec 32 := Scalar.addi v5 v21
  let c16_i32_11 : BitVec 32 := 16#32
  let v23 : BitVec 32 := Scalar.addi v22 c16_i32_11
  let c8_i32_12 : BitVec 32 := 8#32
  let v24 : BitVec 32 := Scalar.remsi v23 c8_i32_12
  let c4_i32_13 : BitVec 32 := 4#32
  let v25 : BitVec 1 := Scalar.cmpi .slt v24 c4_i32_13
  let c11_i32_14 : BitVec 32 := 11#32
  let v26 : BitVec 32 := Scalar.subi c11_i32_14 v24
  let v27 : BitVec 32 := Scalar.select v25 v24 v26
  let v220 : BitVec 32 := Scalar.muli c2_i32_177 v27
  let v221 : BitVec 32 := Scalar.addi v220 v6
  let c64_i32_312 : BitVec 32 := 64#32
  let v397 : BitVec 32 := Scalar.muli v221 c64_i32_312
  let v398 : Index := Scalar.indexCast v397
  let c0_313 : Index := 0#32
  ![v398.toNat, 0]
def k0_off19 (d0 : Dev nD) : Fin 2 → Nat :=
  let c2_i32_177 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c3_i32 : BitVec 32 := 3#32
  let c1_i32_1 : BitVec 32 := 1#32
  let c2_i32_0 : BitVec 32 := 2#32
  let c2_i32 : BitVec 32 := 2#32
  let v6 : BitVec 32 := Scalar.remsi v5 c2_i32
  let v7 : BitVec 32 := Scalar.muli c2_i32_0 v6
  let v8 : BitVec 32 := Scalar.subi c1_i32_1 v7
  let v21 : BitVec 32 := Scalar.muli c3_i32 v8
  let v22 : BitVec 32 := Scalar.addi v5 v21
  let c16_i32_11 : BitVec 32 := 16#32
  let v23 : BitVec 32 := Scalar.addi v22 c16_i32_11
  let c8_i32_12 : BitVec 32 := 8#32
  let v24 : BitVec 32 := Scalar.remsi v23 c8_i32_12
  let c4_i32_13 : BitVec 32 := 4#32
  let v25 : BitVec 1 := Scalar.cmpi .slt v24 c4_i32_13
  let c11_i32_14 : BitVec 32 := 11#32
  let v26 : BitVec 32 := Scalar.subi c11_i32_14 v24
  let v27 : BitVec 32 := Scalar.select v25 v24 v26
  let v220 : BitVec 32 := Scalar.muli c2_i32_177 v27
  let v221 : BitVec 32 := Scalar.addi v220 v6
  let c64_i32_318 : BitVec 32 := 64#32
  let v404 : BitVec 32 := Scalar.muli v221 c64_i32_318
  let v405 : Index := Scalar.indexCast v404
  let c0_319 : Index := 0#32
  ![v405.toNat, 0]
def k0_off20 (d0 : Dev nD) : Fin 2 → Nat :=
  let c2_i32_177 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c3_i32 : BitVec 32 := 3#32
  let c1_i32_1 : BitVec 32 := 1#32
  let c2_i32_0 : BitVec 32 := 2#32
  let c2_i32 : BitVec 32 := 2#32
  let v6 : BitVec 32 := Scalar.remsi v5 c2_i32
  let v7 : BitVec 32 := Scalar.muli c2_i32_0 v6
  let v8 : BitVec 32 := Scalar.subi c1_i32_1 v7
  let v21 : BitVec 32 := Scalar.muli c3_i32 v8
  let v22 : BitVec 32 := Scalar.addi v5 v21
  let c16_i32_11 : BitVec 32 := 16#32
  let v23 : BitVec 32 := Scalar.addi v22 c16_i32_11
  let c8_i32_12 : BitVec 32 := 8#32
  let v24 : BitVec 32 := Scalar.remsi v23 c8_i32_12
  let c4_i32_13 : BitVec 32 := 4#32
  let v25 : BitVec 1 := Scalar.cmpi .slt v24 c4_i32_13
  let c11_i32_14 : BitVec 32 := 11#32
  let v26 : BitVec 32 := Scalar.subi c11_i32_14 v24
  let v27 : BitVec 32 := Scalar.select v25 v24 v26
  let v220 : BitVec 32 := Scalar.muli c2_i32_177 v27
  let v221 : BitVec 32 := Scalar.addi v220 v6
  let c64_i32_320 : BitVec 32 := 64#32
  let v409 : BitVec 32 := Scalar.muli v221 c64_i32_320
  let c0_i32_322 : BitVec 32 := 0#32
  ![v409.toNat, 0]
def k0_dev12 (d0 : Dev nD) : Nat :=
  let c0_i32_337 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_2 : BitVec 32 := 1#32
  let v9 : BitVec 32 := Scalar.addi v5 c1_i32_2
  let c16_i32 : BitVec 32 := 16#32
  let v10 : BitVec 32 := Scalar.addi v9 c16_i32
  let c8_i32_3 : BitVec 32 := 8#32
  let v11 : BitVec 32 := Scalar.remsi v10 c8_i32_3
  let c4_i32_4 : BitVec 32 := 4#32
  let v12 : BitVec 1 := Scalar.cmpi .slt v11 c4_i32_4
  let c11_i32_5 : BitVec 32 := 11#32
  let v13 : BitVec 32 := Scalar.subi c11_i32_5 v11
  let v14 : BitVec 32 := Scalar.select v12 v11 v13
  let c1_i32_336 : BitVec 32 := 1#32
  let v424 : BitVec 32 := Scalar.muli v14 c1_i32_336
  let v425 : BitVec 32 := Scalar.addi c0_i32_337 v424
  v425.toNat
def k0_dev13 (d0 : Dev nD) : Nat :=
  let c0_i32_353 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_6 : BitVec 32 := 1#32
  let v15 : BitVec 32 := Scalar.subi v5 c1_i32_6
  let c16_i32_7 : BitVec 32 := 16#32
  let v16 : BitVec 32 := Scalar.addi v15 c16_i32_7
  let c8_i32_8 : BitVec 32 := 8#32
  let v17 : BitVec 32 := Scalar.remsi v16 c8_i32_8
  let c4_i32_9 : BitVec 32 := 4#32
  let v18 : BitVec 1 := Scalar.cmpi .slt v17 c4_i32_9
  let c11_i32_10 : BitVec 32 := 11#32
  let v19 : BitVec 32 := Scalar.subi c11_i32_10 v17
  let v20 : BitVec 32 := Scalar.select v18 v17 v19
  let c1_i32_352 : BitVec 32 := 1#32
  let v442 : BitVec 32 := Scalar.muli v20 c1_i32_352
  let v443 : BitVec 32 := Scalar.addi c0_i32_353 v442
  v443.toNat
def k0_off21 (d0 : Dev nD) : Fin 2 → Nat :=
  let c2_i32_169 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_1 : BitVec 32 := 1#32
  let c2_i32_0 : BitVec 32 := 2#32
  let c2_i32 : BitVec 32 := 2#32
  let v6 : BitVec 32 := Scalar.remsi v5 c2_i32
  let v7 : BitVec 32 := Scalar.muli c2_i32_0 v6
  let v8 : BitVec 32 := Scalar.subi c1_i32_1 v7
  let v191 : BitVec 32 := Scalar.subi v5 v8
  let c16_i32_157 : BitVec 32 := 16#32
  let v192 : BitVec 32 := Scalar.addi v191 c16_i32_157
  let c8_i32_158 : BitVec 32 := 8#32
  let v193 : BitVec 32 := Scalar.remsi v192 c8_i32_158
  let c4_i32_159 : BitVec 32 := 4#32
  let v194 : BitVec 1 := Scalar.cmpi .slt v193 c4_i32_159
  let c11_i32_160 : BitVec 32 := 11#32
  let v195 : BitVec 32 := Scalar.subi c11_i32_160 v193
  let v196 : BitVec 32 := Scalar.select v194 v193 v195
  let v209 : BitVec 32 := Scalar.muli c2_i32_169 v196
  let c1_i32_170 : BitVec 32 := 1#32
  let v210 : BitVec 32 := Scalar.addi v209 c1_i32_170
  let v211 : BitVec 32 := Scalar.subi v210 v6
  let c64_i32_357 : BitVec 32 := 64#32
  let v451 : BitVec 32 := Scalar.muli v211 c64_i32_357
  let c0_i32_362 : BitVec 32 := 0#32
  ![v451.toNat, 0]
def k0_dev14 (d0 : Dev nD) : Nat :=
  let c0_i32_361 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c3_i32 : BitVec 32 := 3#32
  let c1_i32_1 : BitVec 32 := 1#32
  let c2_i32_0 : BitVec 32 := 2#32
  let c2_i32 : BitVec 32 := 2#32
  let v6 : BitVec 32 := Scalar.remsi v5 c2_i32
  let v7 : BitVec 32 := Scalar.muli c2_i32_0 v6
  let v8 : BitVec 32 := Scalar.subi c1_i32_1 v7
  let v21 : BitVec 32 := Scalar.muli c3_i32 v8
  let v22 : BitVec 32 := Scalar.addi v5 v21
  let c16_i32_11 : BitVec 32 := 16#32
  let v23 : BitVec 32 := Scalar.addi v22 c16_i32_11
  let c8_i32_12 : BitVec 32 := 8#32
  let v24 : BitVec 32 := Scalar.remsi v23 c8_i32_12
  let c4_i32_13 : BitVec 32 := 4#32
  let v25 : BitVec 1 := Scalar.cmpi .slt v24 c4_i32_13
  let c11_i32_14 : BitVec 32 := 11#32
  let v26 : BitVec 32 := Scalar.subi c11_i32_14 v24
  let v27 : BitVec 32 := Scalar.select v25 v24 v26
  let c1_i32_360 : BitVec 32 := 1#32
  let v452 : BitVec 32 := Scalar.muli v27 c1_i32_360
  let v453 : BitVec 32 := Scalar.addi c0_i32_361 v452
  v453.toNat
def k0_off22 (d0 : Dev nD) (c1_i32_65 : BitVec 32) : Fin 2 → Nat :=
  let c2_i32_70 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v85 : BitVec 32 := Scalar.subi v5 c1_i32_65
  let c16_i32_66 : BitVec 32 := 16#32
  let v86 : BitVec 32 := Scalar.addi v85 c16_i32_66
  let c8_i32_67 : BitVec 32 := 8#32
  let v87 : BitVec 32 := Scalar.remsi v86 c8_i32_67
  let c4_i32_68 : BitVec 32 := 4#32
  let v88 : BitVec 1 := Scalar.cmpi .slt v87 c4_i32_68
  let c11_i32_69 : BitVec 32 := 11#32
  let v89 : BitVec 32 := Scalar.subi c11_i32_69 v87
  let v90 : BitVec 32 := Scalar.select v88 v87 v89
  let v91 : BitVec 32 := Scalar.muli c2_i32_70 v90
  let c1_i32_71 : BitVec 32 := 1#32
  let v92 : BitVec 32 := Scalar.addi v91 c1_i32_71
  let c64_i32_364 : BitVec 32 := 64#32
  let v460 : BitVec 32 := Scalar.muli v92 c64_i32_364
  let v461 : Index := Scalar.indexCast v460
  let c0_365 : Index := 0#32
  ![v461.toNat, 0]
def k0_off23 (d0 : Dev nD) (c1_i32_65 : BitVec 32) : Fin 2 → Nat :=
  let c2_i32_70 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v85 : BitVec 32 := Scalar.subi v5 c1_i32_65
  let c16_i32_66 : BitVec 32 := 16#32
  let v86 : BitVec 32 := Scalar.addi v85 c16_i32_66
  let c8_i32_67 : BitVec 32 := 8#32
  let v87 : BitVec 32 := Scalar.remsi v86 c8_i32_67
  let c4_i32_68 : BitVec 32 := 4#32
  let v88 : BitVec 1 := Scalar.cmpi .slt v87 c4_i32_68
  let c11_i32_69 : BitVec 32 := 11#32
  let v89 : BitVec 32 := Scalar.subi c11_i32_69 v87
  let v90 : BitVec 32 := Scalar.select v88 v87 v89
  let v91 : BitVec 32 := Scalar.muli c2_i32_70 v90
  let c1_i32_71 : BitVec 32 := 1#32
  let v92 : BitVec 32 := Scalar.addi v91 c1_i32_71
  let c64_i32_370 : BitVec 32 := 64#32
  let v467 : BitVec 32 := Scalar.muli v92 c64_i32_370
  let v468 : Index := Scalar.indexCast v467
  let c0_371 : Index := 0#32
  ![v468.toNat, 0]
def k0_off24 (d0 : Dev nD) (c1_i32_65 : BitVec 32) : Fin 2 → Nat :=
  let c2_i32_70 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v85 : BitVec 32 := Scalar.subi v5 c1_i32_65
  let c16_i32_66 : BitVec 32 := 16#32
  let v86 : BitVec 32 := Scalar.addi v85 c16_i32_66
  let c8_i32_67 : BitVec 32 := 8#32
  let v87 : BitVec 32 := Scalar.remsi v86 c8_i32_67
  let c4_i32_68 : BitVec 32 := 4#32
  let v88 : BitVec 1 := Scalar.cmpi .slt v87 c4_i32_68
  let c11_i32_69 : BitVec 32 := 11#32
  let v89 : BitVec 32 := Scalar.subi c11_i32_69 v87
  let v90 : BitVec 32 := Scalar.select v88 v87 v89
  let v91 : BitVec 32 := Scalar.muli c2_i32_70 v90
  let c1_i32_71 : BitVec 32 := 1#32
  let v92 : BitVec 32 := Scalar.addi v91 c1_i32_71
  let c64_i32_372 : BitVec 32 := 64#32
  let v472 : BitVec 32 := Scalar.muli v92 c64_i32_372
  let c0_i32_374 : BitVec 32 := 0#32
  ![v472.toNat, 0]
def k0_off25 (d0 : Dev nD) (c1_i32_131 : BitVec 32) : Fin 2 → Nat :=
  let c2_i32_136 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v161 : BitVec 32 := Scalar.addi v5 c1_i32_131
  let c16_i32_132 : BitVec 32 := 16#32
  let v162 : BitVec 32 := Scalar.addi v161 c16_i32_132
  let c8_i32_133 : BitVec 32 := 8#32
  let v163 : BitVec 32 := Scalar.remsi v162 c8_i32_133
  let c4_i32_134 : BitVec 32 := 4#32
  let v164 : BitVec 1 := Scalar.cmpi .slt v163 c4_i32_134
  let c11_i32_135 : BitVec 32 := 11#32
  let v165 : BitVec 32 := Scalar.subi c11_i32_135 v163
  let v166 : BitVec 32 := Scalar.select v164 v163 v165
  let v167 : BitVec 32 := Scalar.muli c2_i32_136 v166
  let c64_i32_376 : BitVec 32 := 64#32
  let v477 : BitVec 32 := Scalar.muli v167 c64_i32_376
  let v478 : Index := Scalar.indexCast v477
  let c0_377 : Index := 0#32
  ![v478.toNat, 0]
def k0_off26 (d0 : Dev nD) (c1_i32_131 : BitVec 32) : Fin 2 → Nat :=
  let c2_i32_136 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v161 : BitVec 32 := Scalar.addi v5 c1_i32_131
  let c16_i32_132 : BitVec 32 := 16#32
  let v162 : BitVec 32 := Scalar.addi v161 c16_i32_132
  let c8_i32_133 : BitVec 32 := 8#32
  let v163 : BitVec 32 := Scalar.remsi v162 c8_i32_133
  let c4_i32_134 : BitVec 32 := 4#32
  let v164 : BitVec 1 := Scalar.cmpi .slt v163 c4_i32_134
  let c11_i32_135 : BitVec 32 := 11#32
  let v165 : BitVec 32 := Scalar.subi c11_i32_135 v163
  let v166 : BitVec 32 := Scalar.select v164 v163 v165
  let v167 : BitVec 32 := Scalar.muli c2_i32_136 v166
  let c64_i32_382 : BitVec 32 := 64#32
  let v484 : BitVec 32 := Scalar.muli v167 c64_i32_382
  let v485 : Index := Scalar.indexCast v484
  let c0_383 : Index := 0#32
  ![v485.toNat, 0]
def k0_off27 (d0 : Dev nD) (c1_i32_131 : BitVec 32) : Fin 2 → Nat :=
  let c2_i32_136 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v161 : BitVec 32 := Scalar.addi v5 c1_i32_131
  let c16_i32_132 : BitVec 32 := 16#32
  let v162 : BitVec 32 := Scalar.addi v161 c16_i32_132
  let c8_i32_133 : BitVec 32 := 8#32
  let v163 : BitVec 32 := Scalar.remsi v162 c8_i32_133
  let c4_i32_134 : BitVec 32 := 4#32
  let v164 : BitVec 1 := Scalar.cmpi .slt v163 c4_i32_134
  let c11_i32_135 : BitVec 32 := 11#32
  let v165 : BitVec 32 := Scalar.subi c11_i32_135 v163
  let v166 : BitVec 32 := Scalar.select v164 v163 v165
  let v167 : BitVec 32 := Scalar.muli c2_i32_136 v166
  let c64_i32_384 : BitVec 32 := 64#32
  let v489 : BitVec 32 := Scalar.muli v167 c64_i32_384
  let c0_i32_385 : BitVec 32 := 0#32
  ![v489.toNat, 0]
def k0_dev15 (d0 : Dev nD) : Nat :=
  let c0_i32_400 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_2 : BitVec 32 := 1#32
  let v9 : BitVec 32 := Scalar.addi v5 c1_i32_2
  let c16_i32 : BitVec 32 := 16#32
  let v10 : BitVec 32 := Scalar.addi v9 c16_i32
  let c8_i32_3 : BitVec 32 := 8#32
  let v11 : BitVec 32 := Scalar.remsi v10 c8_i32_3
  let c4_i32_4 : BitVec 32 := 4#32
  let v12 : BitVec 1 := Scalar.cmpi .slt v11 c4_i32_4
  let c11_i32_5 : BitVec 32 := 11#32
  let v13 : BitVec 32 := Scalar.subi c11_i32_5 v11
  let v14 : BitVec 32 := Scalar.select v12 v11 v13
  let c1_i32_399 : BitVec 32 := 1#32
  let v504 : BitVec 32 := Scalar.muli v14 c1_i32_399
  let v505 : BitVec 32 := Scalar.addi c0_i32_400 v504
  v505.toNat
def k0_dev16 (d0 : Dev nD) : Nat :=
  let c0_i32_416 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_6 : BitVec 32 := 1#32
  let v15 : BitVec 32 := Scalar.subi v5 c1_i32_6
  let c16_i32_7 : BitVec 32 := 16#32
  let v16 : BitVec 32 := Scalar.addi v15 c16_i32_7
  let c8_i32_8 : BitVec 32 := 8#32
  let v17 : BitVec 32 := Scalar.remsi v16 c8_i32_8
  let c4_i32_9 : BitVec 32 := 4#32
  let v18 : BitVec 1 := Scalar.cmpi .slt v17 c4_i32_9
  let c11_i32_10 : BitVec 32 := 11#32
  let v19 : BitVec 32 := Scalar.subi c11_i32_10 v17
  let v20 : BitVec 32 := Scalar.select v18 v17 v19
  let c1_i32_415 : BitVec 32 := 1#32
  let v522 : BitVec 32 := Scalar.muli v20 c1_i32_415
  let v523 : BitVec 32 := Scalar.addi c0_i32_416 v522
  v523.toNat
def k0_off28 (d0 : Dev nD) : Fin 2 → Nat :=
  let c2_i32_171 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32_161 : BitVec 32 := 2#32
  let c1_i32_1 : BitVec 32 := 1#32
  let c2_i32_0 : BitVec 32 := 2#32
  let c2_i32 : BitVec 32 := 2#32
  let v6 : BitVec 32 := Scalar.remsi v5 c2_i32
  let v7 : BitVec 32 := Scalar.muli c2_i32_0 v6
  let v8 : BitVec 32 := Scalar.subi c1_i32_1 v7
  let v197 : BitVec 32 := Scalar.muli c2_i32_161 v8
  let v198 : BitVec 32 := Scalar.subi v5 v197
  let c16_i32_162 : BitVec 32 := 16#32
  let v199 : BitVec 32 := Scalar.addi v198 c16_i32_162
  let c8_i32_163 : BitVec 32 := 8#32
  let v200 : BitVec 32 := Scalar.remsi v199 c8_i32_163
  let c4_i32_164 : BitVec 32 := 4#32
  let v201 : BitVec 1 := Scalar.cmpi .slt v200 c4_i32_164
  let c11_i32_165 : BitVec 32 := 11#32
  let v202 : BitVec 32 := Scalar.subi c11_i32_165 v200
  let v203 : BitVec 32 := Scalar.select v201 v200 v202
  let v212 : BitVec 32 := Scalar.muli c2_i32_171 v203
  let v213 : BitVec 32 := Scalar.addi v212 v6
  let c64_i32_420 : BitVec 32 := 64#32
  let v531 : BitVec 32 := Scalar.muli v213 c64_i32_420
  let c0_i32_425 : BitVec 32 := 0#32
  ![v531.toNat, 0]
def k0_dev17 (d0 : Dev nD) : Nat :=
  let c0_i32_424 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c3_i32 : BitVec 32 := 3#32
  let c1_i32_1 : BitVec 32 := 1#32
  let c2_i32_0 : BitVec 32 := 2#32
  let c2_i32 : BitVec 32 := 2#32
  let v6 : BitVec 32 := Scalar.remsi v5 c2_i32
  let v7 : BitVec 32 := Scalar.muli c2_i32_0 v6
  let v8 : BitVec 32 := Scalar.subi c1_i32_1 v7
  let v21 : BitVec 32 := Scalar.muli c3_i32 v8
  let v22 : BitVec 32 := Scalar.addi v5 v21
  let c16_i32_11 : BitVec 32 := 16#32
  let v23 : BitVec 32 := Scalar.addi v22 c16_i32_11
  let c8_i32_12 : BitVec 32 := 8#32
  let v24 : BitVec 32 := Scalar.remsi v23 c8_i32_12
  let c4_i32_13 : BitVec 32 := 4#32
  let v25 : BitVec 1 := Scalar.cmpi .slt v24 c4_i32_13
  let c11_i32_14 : BitVec 32 := 11#32
  let v26 : BitVec 32 := Scalar.subi c11_i32_14 v24
  let v27 : BitVec 32 := Scalar.select v25 v24 v26
  let c1_i32_423 : BitVec 32 := 1#32
  let v532 : BitVec 32 := Scalar.muli v27 c1_i32_423
  let v533 : BitVec 32 := Scalar.addi c0_i32_424 v532
  v533.toNat
def k0_off29 (d0 : Dev nD) : Fin 2 → Nat :=
  let c2_i32_178 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_172 : BitVec 32 := 4#32
  let v214 : BitVec 32 := Scalar.addi v5 c4_i32_172
  let c16_i32_173 : BitVec 32 := 16#32
  let v215 : BitVec 32 := Scalar.addi v214 c16_i32_173
  let c8_i32_174 : BitVec 32 := 8#32
  let v216 : BitVec 32 := Scalar.remsi v215 c8_i32_174
  let c4_i32_175 : BitVec 32 := 4#32
  let v217 : BitVec 1 := Scalar.cmpi .slt v216 c4_i32_175
  let c11_i32_176 : BitVec 32 := 11#32
  let v218 : BitVec 32 := Scalar.subi c11_i32_176 v216
  let v219 : BitVec 32 := Scalar.select v217 v216 v218
  let v222 : BitVec 32 := Scalar.muli c2_i32_178 v219
  let c1_i32_179 : BitVec 32 := 1#32
  let v223 : BitVec 32 := Scalar.addi v222 c1_i32_179
  let c2_i32 : BitVec 32 := 2#32
  let v6 : BitVec 32 := Scalar.remsi v5 c2_i32
  let v224 : BitVec 32 := Scalar.subi v223 v6
  let c64_i32_450 : BitVec 32 := 64#32
  let v575 : BitVec 32 := Scalar.muli v224 c64_i32_450
  let c0_i32_455 : BitVec 32 := 0#32
  ![v575.toNat, 0]
def k0_off30 (d0 : Dev nD) : Fin 2 → Nat :=
  let c2_i32_178 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_172 : BitVec 32 := 4#32
  let v214 : BitVec 32 := Scalar.addi v5 c4_i32_172
  let c16_i32_173 : BitVec 32 := 16#32
  let v215 : BitVec 32 := Scalar.addi v214 c16_i32_173
  let c8_i32_174 : BitVec 32 := 8#32
  let v216 : BitVec 32 := Scalar.remsi v215 c8_i32_174
  let c4_i32_175 : BitVec 32 := 4#32
  let v217 : BitVec 1 := Scalar.cmpi .slt v216 c4_i32_175
  let c11_i32_176 : BitVec 32 := 11#32
  let v218 : BitVec 32 := Scalar.subi c11_i32_176 v216
  let v219 : BitVec 32 := Scalar.select v217 v216 v218
  let v222 : BitVec 32 := Scalar.muli c2_i32_178 v219
  let c1_i32_179 : BitVec 32 := 1#32
  let v223 : BitVec 32 := Scalar.addi v222 c1_i32_179
  let c2_i32 : BitVec 32 := 2#32
  let v6 : BitVec 32 := Scalar.remsi v5 c2_i32
  let v224 : BitVec 32 := Scalar.subi v223 v6
  let c64_i32_457 : BitVec 32 := 64#32
  let v582 : BitVec 32 := Scalar.muli v224 c64_i32_457
  let v583 : Index := Scalar.indexCast v582
  let c0_458 : Index := 0#32
  ![v583.toNat, 0]
def k0_off31 (d0 : Dev nD) : Fin 2 → Nat :=
  let c2_i32_178 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_172 : BitVec 32 := 4#32
  let v214 : BitVec 32 := Scalar.addi v5 c4_i32_172
  let c16_i32_173 : BitVec 32 := 16#32
  let v215 : BitVec 32 := Scalar.addi v214 c16_i32_173
  let c8_i32_174 : BitVec 32 := 8#32
  let v216 : BitVec 32 := Scalar.remsi v215 c8_i32_174
  let c4_i32_175 : BitVec 32 := 4#32
  let v217 : BitVec 1 := Scalar.cmpi .slt v216 c4_i32_175
  let c11_i32_176 : BitVec 32 := 11#32
  let v218 : BitVec 32 := Scalar.subi c11_i32_176 v216
  let v219 : BitVec 32 := Scalar.select v217 v216 v218
  let v222 : BitVec 32 := Scalar.muli c2_i32_178 v219
  let c1_i32_179 : BitVec 32 := 1#32
  let v223 : BitVec 32 := Scalar.addi v222 c1_i32_179
  let c2_i32 : BitVec 32 := 2#32
  let v6 : BitVec 32 := Scalar.remsi v5 c2_i32
  let v224 : BitVec 32 := Scalar.subi v223 v6
  let c64_i32_463 : BitVec 32 := 64#32
  let v589 : BitVec 32 := Scalar.muli v224 c64_i32_463
  let v590 : Index := Scalar.indexCast v589
  let c0_464 : Index := 0#32
  ![v590.toNat, 0]
def k0_off32 (d0 : Dev nD) : Fin 2 → Nat :=
  let c2_i32_178 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_172 : BitVec 32 := 4#32
  let v214 : BitVec 32 := Scalar.addi v5 c4_i32_172
  let c16_i32_173 : BitVec 32 := 16#32
  let v215 : BitVec 32 := Scalar.addi v214 c16_i32_173
  let c8_i32_174 : BitVec 32 := 8#32
  let v216 : BitVec 32 := Scalar.remsi v215 c8_i32_174
  let c4_i32_175 : BitVec 32 := 4#32
  let v217 : BitVec 1 := Scalar.cmpi .slt v216 c4_i32_175
  let c11_i32_176 : BitVec 32 := 11#32
  let v218 : BitVec 32 := Scalar.subi c11_i32_176 v216
  let v219 : BitVec 32 := Scalar.select v217 v216 v218
  let v222 : BitVec 32 := Scalar.muli c2_i32_178 v219
  let c1_i32_179 : BitVec 32 := 1#32
  let v223 : BitVec 32 := Scalar.addi v222 c1_i32_179
  let c2_i32 : BitVec 32 := 2#32
  let v6 : BitVec 32 := Scalar.remsi v5 c2_i32
  let v224 : BitVec 32 := Scalar.subi v223 v6
  let c64_i32_465 : BitVec 32 := 64#32
  let v594 : BitVec 32 := Scalar.muli v224 c64_i32_465
  let c0_i32_467 : BitVec 32 := 0#32
  ![v594.toNat, 0]
def k0_off33 (d0 : Dev nD) : Fin 2 → Nat :=
  let c2_i32_180 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_172 : BitVec 32 := 4#32
  let v214 : BitVec 32 := Scalar.addi v5 c4_i32_172
  let c16_i32_173 : BitVec 32 := 16#32
  let v215 : BitVec 32 := Scalar.addi v214 c16_i32_173
  let c8_i32_174 : BitVec 32 := 8#32
  let v216 : BitVec 32 := Scalar.remsi v215 c8_i32_174
  let c4_i32_175 : BitVec 32 := 4#32
  let v217 : BitVec 1 := Scalar.cmpi .slt v216 c4_i32_175
  let c11_i32_176 : BitVec 32 := 11#32
  let v218 : BitVec 32 := Scalar.subi c11_i32_176 v216
  let v219 : BitVec 32 := Scalar.select v217 v216 v218
  let v225 : BitVec 32 := Scalar.muli c2_i32_180 v219
  let c2_i32 : BitVec 32 := 2#32
  let v6 : BitVec 32 := Scalar.remsi v5 c2_i32
  let v226 : BitVec 32 := Scalar.addi v225 v6
  let c64_i32_508 : BitVec 32 := 64#32
  let v650 : BitVec 32 := Scalar.muli v226 c64_i32_508
  let c0_i32_513 : BitVec 32 := 0#32
  ![v650.toNat, 0]
def k0_off34 (d0 : Dev nD) : Fin 2 → Nat :=
  let c2_i32_180 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_172 : BitVec 32 := 4#32
  let v214 : BitVec 32 := Scalar.addi v5 c4_i32_172
  let c16_i32_173 : BitVec 32 := 16#32
  let v215 : BitVec 32 := Scalar.addi v214 c16_i32_173
  let c8_i32_174 : BitVec 32 := 8#32
  let v216 : BitVec 32 := Scalar.remsi v215 c8_i32_174
  let c4_i32_175 : BitVec 32 := 4#32
  let v217 : BitVec 1 := Scalar.cmpi .slt v216 c4_i32_175
  let c11_i32_176 : BitVec 32 := 11#32
  let v218 : BitVec 32 := Scalar.subi c11_i32_176 v216
  let v219 : BitVec 32 := Scalar.select v217 v216 v218
  let v225 : BitVec 32 := Scalar.muli c2_i32_180 v219
  let c2_i32 : BitVec 32 := 2#32
  let v6 : BitVec 32 := Scalar.remsi v5 c2_i32
  let v226 : BitVec 32 := Scalar.addi v225 v6
  let c64_i32_515 : BitVec 32 := 64#32
  let v657 : BitVec 32 := Scalar.muli v226 c64_i32_515
  let v658 : Index := Scalar.indexCast v657
  let c0_516 : Index := 0#32
  ![v658.toNat, 0]
def k0_off35 (d0 : Dev nD) : Fin 2 → Nat :=
  let c2_i32_180 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_172 : BitVec 32 := 4#32
  let v214 : BitVec 32 := Scalar.addi v5 c4_i32_172
  let c16_i32_173 : BitVec 32 := 16#32
  let v215 : BitVec 32 := Scalar.addi v214 c16_i32_173
  let c8_i32_174 : BitVec 32 := 8#32
  let v216 : BitVec 32 := Scalar.remsi v215 c8_i32_174
  let c4_i32_175 : BitVec 32 := 4#32
  let v217 : BitVec 1 := Scalar.cmpi .slt v216 c4_i32_175
  let c11_i32_176 : BitVec 32 := 11#32
  let v218 : BitVec 32 := Scalar.subi c11_i32_176 v216
  let v219 : BitVec 32 := Scalar.select v217 v216 v218
  let v225 : BitVec 32 := Scalar.muli c2_i32_180 v219
  let c2_i32 : BitVec 32 := 2#32
  let v6 : BitVec 32 := Scalar.remsi v5 c2_i32
  let v226 : BitVec 32 := Scalar.addi v225 v6
  let c64_i32_521 : BitVec 32 := 64#32
  let v664 : BitVec 32 := Scalar.muli v226 c64_i32_521
  let v665 : Index := Scalar.indexCast v664
  let c0_522 : Index := 0#32
  ![v665.toNat, 0]
def k0_off36 (d0 : Dev nD) : Fin 2 → Nat :=
  let c2_i32_180 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_172 : BitVec 32 := 4#32
  let v214 : BitVec 32 := Scalar.addi v5 c4_i32_172
  let c16_i32_173 : BitVec 32 := 16#32
  let v215 : BitVec 32 := Scalar.addi v214 c16_i32_173
  let c8_i32_174 : BitVec 32 := 8#32
  let v216 : BitVec 32 := Scalar.remsi v215 c8_i32_174
  let c4_i32_175 : BitVec 32 := 4#32
  let v217 : BitVec 1 := Scalar.cmpi .slt v216 c4_i32_175
  let c11_i32_176 : BitVec 32 := 11#32
  let v218 : BitVec 32 := Scalar.subi c11_i32_176 v216
  let v219 : BitVec 32 := Scalar.select v217 v216 v218
  let v225 : BitVec 32 := Scalar.muli c2_i32_180 v219
  let c2_i32 : BitVec 32 := 2#32
  let v6 : BitVec 32 := Scalar.remsi v5 c2_i32
  let v226 : BitVec 32 := Scalar.addi v225 v6
  let c64_i32_523 : BitVec 32 := 64#32
  let v669 : BitVec 32 := Scalar.muli v226 c64_i32_523
  let c0_i32_525 : BitVec 32 := 0#32
  ![v669.toNat, 0]
def k0_off37 (d0 : Dev nD) : Fin 2 → Nat :=
  let c2_i32_186 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c3_i32_181 : BitVec 32 := 3#32
  let c1_i32_1 : BitVec 32 := 1#32
  let c2_i32_0 : BitVec 32 := 2#32
  let c2_i32 : BitVec 32 := 2#32
  let v6 : BitVec 32 := Scalar.remsi v5 c2_i32
  let v7 : BitVec 32 := Scalar.muli c2_i32_0 v6
  let v8 : BitVec 32 := Scalar.subi c1_i32_1 v7
  let v227 : BitVec 32 := Scalar.muli c3_i32_181 v8
  let v228 : BitVec 32 := Scalar.subi v5 v227
  let c16_i32_182 : BitVec 32 := 16#32
  let v229 : BitVec 32 := Scalar.addi v228 c16_i32_182
  let c8_i32_183 : BitVec 32 := 8#32
  let v230 : BitVec 32 := Scalar.remsi v229 c8_i32_183
  let c4_i32_184 : BitVec 32 := 4#32
  let v231 : BitVec 1 := Scalar.cmpi .slt v230 c4_i32_184
  let c11_i32_185 : BitVec 32 := 11#32
  let v232 : BitVec 32 := Scalar.subi c11_i32_185 v230
  let v233 : BitVec 32 := Scalar.select v231 v230 v232
  let v234 : BitVec 32 := Scalar.muli c2_i32_186 v233
  let c1_i32_187 : BitVec 32 := 1#32
  let v235 : BitVec 32 := Scalar.addi v234 c1_i32_187
  let v236 : BitVec 32 := Scalar.subi v235 v6
  let c64_i32_566 : BitVec 32 := 64#32
  let v725 : BitVec 32 := Scalar.muli v236 c64_i32_566
  let c0_i32_571 : BitVec 32 := 0#32
  ![v725.toNat, 0]
def k0_off38 (d0 : Dev nD) : Fin 2 → Nat :=
  let c2_i32_186 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c3_i32_181 : BitVec 32 := 3#32
  let c1_i32_1 : BitVec 32 := 1#32
  let c2_i32_0 : BitVec 32 := 2#32
  let c2_i32 : BitVec 32 := 2#32
  let v6 : BitVec 32 := Scalar.remsi v5 c2_i32
  let v7 : BitVec 32 := Scalar.muli c2_i32_0 v6
  let v8 : BitVec 32 := Scalar.subi c1_i32_1 v7
  let v227 : BitVec 32 := Scalar.muli c3_i32_181 v8
  let v228 : BitVec 32 := Scalar.subi v5 v227
  let c16_i32_182 : BitVec 32 := 16#32
  let v229 : BitVec 32 := Scalar.addi v228 c16_i32_182
  let c8_i32_183 : BitVec 32 := 8#32
  let v230 : BitVec 32 := Scalar.remsi v229 c8_i32_183
  let c4_i32_184 : BitVec 32 := 4#32
  let v231 : BitVec 1 := Scalar.cmpi .slt v230 c4_i32_184
  let c11_i32_185 : BitVec 32 := 11#32
  let v232 : BitVec 32 := Scalar.subi c11_i32_185 v230
  let v233 : BitVec 32 := Scalar.select v231 v230 v232
  let v234 : BitVec 32 := Scalar.muli c2_i32_186 v233
  let c1_i32_187 : BitVec 32 := 1#32
  let v235 : BitVec 32 := Scalar.addi v234 c1_i32_187
  let v236 : BitVec 32 := Scalar.subi v235 v6
  let c64_i32_573 : BitVec 32 := 64#32
  let v732 : BitVec 32 := Scalar.muli v236 c64_i32_573
  let v733 : Index := Scalar.indexCast v732
  let c0_574 : Index := 0#32
  ![v733.toNat, 0]
def k0_off39 (d0 : Dev nD) : Fin 2 → Nat :=
  let c2_i32_186 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c3_i32_181 : BitVec 32 := 3#32
  let c1_i32_1 : BitVec 32 := 1#32
  let c2_i32_0 : BitVec 32 := 2#32
  let c2_i32 : BitVec 32 := 2#32
  let v6 : BitVec 32 := Scalar.remsi v5 c2_i32
  let v7 : BitVec 32 := Scalar.muli c2_i32_0 v6
  let v8 : BitVec 32 := Scalar.subi c1_i32_1 v7
  let v227 : BitVec 32 := Scalar.muli c3_i32_181 v8
  let v228 : BitVec 32 := Scalar.subi v5 v227
  let c16_i32_182 : BitVec 32 := 16#32
  let v229 : BitVec 32 := Scalar.addi v228 c16_i32_182
  let c8_i32_183 : BitVec 32 := 8#32
  let v230 : BitVec 32 := Scalar.remsi v229 c8_i32_183
  let c4_i32_184 : BitVec 32 := 4#32
  let v231 : BitVec 1 := Scalar.cmpi .slt v230 c4_i32_184
  let c11_i32_185 : BitVec 32 := 11#32
  let v232 : BitVec 32 := Scalar.subi c11_i32_185 v230
  let v233 : BitVec 32 := Scalar.select v231 v230 v232
  let v234 : BitVec 32 := Scalar.muli c2_i32_186 v233
  let c1_i32_187 : BitVec 32 := 1#32
  let v235 : BitVec 32 := Scalar.addi v234 c1_i32_187
  let v236 : BitVec 32 := Scalar.subi v235 v6
  let c64_i32_579 : BitVec 32 := 64#32
  let v739 : BitVec 32 := Scalar.muli v236 c64_i32_579
  let v740 : Index := Scalar.indexCast v739
  let c0_580 : Index := 0#32
  ![v740.toNat, 0]
def k0_off40 (d0 : Dev nD) : Fin 2 → Nat :=
  let c2_i32_186 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c3_i32_181 : BitVec 32 := 3#32
  let c1_i32_1 : BitVec 32 := 1#32
  let c2_i32_0 : BitVec 32 := 2#32
  let c2_i32 : BitVec 32 := 2#32
  let v6 : BitVec 32 := Scalar.remsi v5 c2_i32
  let v7 : BitVec 32 := Scalar.muli c2_i32_0 v6
  let v8 : BitVec 32 := Scalar.subi c1_i32_1 v7
  let v227 : BitVec 32 := Scalar.muli c3_i32_181 v8
  let v228 : BitVec 32 := Scalar.subi v5 v227
  let c16_i32_182 : BitVec 32 := 16#32
  let v229 : BitVec 32 := Scalar.addi v228 c16_i32_182
  let c8_i32_183 : BitVec 32 := 8#32
  let v230 : BitVec 32 := Scalar.remsi v229 c8_i32_183
  let c4_i32_184 : BitVec 32 := 4#32
  let v231 : BitVec 1 := Scalar.cmpi .slt v230 c4_i32_184
  let c11_i32_185 : BitVec 32 := 11#32
  let v232 : BitVec 32 := Scalar.subi c11_i32_185 v230
  let v233 : BitVec 32 := Scalar.select v231 v230 v232
  let v234 : BitVec 32 := Scalar.muli c2_i32_186 v233
  let c1_i32_187 : BitVec 32 := 1#32
  let v235 : BitVec 32 := Scalar.addi v234 c1_i32_187
  let v236 : BitVec 32 := Scalar.subi v235 v6
  let c64_i32_581 : BitVec 32 := 64#32
  let v744 : BitVec 32 := Scalar.muli v236 c64_i32_581
  let c0_i32_582 : BitVec 32 := 0#32
  ![v744.toNat, 0]
-- ==== ReferenceIdeal.lean ====
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S1024x1024, .f32⟩
  | .hbm, ⟨5, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Mesh.lean ====
/-
The ring of eight devices and the pieces of the gathered array.

A device's place on the ring is `pos`; its right, left and across neighbours are `rgt`, `lft` and `prt`. The gathered
array is cut in sixteen pieces of 64 rows, device `d` contributing pieces `2 d` and `2 d + 1`. There are fourteen
transfers `t`: 0–4 go to the right, 5–9 to the left, 10–13 across; `sent c t` is the piece device `c` sends in transfer
`t`, and `got c t` the piece it receives in it.
-/
module

public import proofs.«01_k».proof.Proof.Gen.KernelIdeal

@[expose] public section

namespace Cert.KProof

open Cert.KernelIdeal Cert.KernelIdeal.Gen
open Idealize.ShloMosaic Idealize.SL.Sem

/-! ## The ring -/

/-- The place of device `c` on the ring 0, 1, 2, 3, 7, 6, 5, 4. -/
def pos (c : Dev nD) : ℕ := if c.val < 4 then c.val else 11 - c.val
/-- The device at place `q` of the ring, `q` read modulo 8. -/
def devAt (q : ℕ) : Dev nD := ⟨if q % 8 < 4 then q % 8 else 11 - q % 8, by simp only [nD]; split <;> omega⟩
/-- The next device on the ring. -/
def rgt (c : Dev nD) : Dev nD := devAt (pos c + 1)
/-- The device before on the ring. -/
def lft (c : Dev nD) : Dev nD := devAt (pos c + 7)
/-- The device three places on (from an even place) or three places back (from an odd one): an involution. -/
def prt (c : Dev nD) : Dev nD := devAt (pos c + 11 - 6 * (pos c % 2))

theorem lft_rgt (c : Dev nD) : lft (rgt c) = c := by revert c; decide +kernel
theorem rgt_lft (c : Dev nD) : rgt (lft c) = c := by revert c; decide +kernel
theorem prt_prt (c : Dev nD) : prt (prt c) = c := by revert c; decide +kernel

/-! ## The transfers -/

/-- The piece device `c` sends to the right as its `j`-th. -/
def pieceF (c : Dev nD) (j : ℕ) : ℕ := 2 * (devAt (pos c + 16 - j / 2)).val + j % 2
/-- The piece device `c` sends to the left as its `j`-th. -/
def pieceB (c : Dev nD) (j : ℕ) : ℕ := 2 * (devAt (pos c + j / 2)).val + (1 - j % 2)

/-- The piece device `c` sends in transfer `t`. Across go, first, one of its own two pieces, then each time the one of
    the two pieces received last that the partner lacks. -/
def sent (c : Dev nD) (t : Fin 14) : ℕ :=
  if t.val < 5 then pieceF c t.val
  else if t.val < 10 then pieceB c (t.val - 5)
  else if t.val = 10 then 2 * c.val + (1 - pos c % 2)
  else if pos c % 2 = 0 then pieceF c (t.val - 9) else pieceB c (t.val - 9)

/-- Whom device `c` addresses in transfer `t`. -/
def dst (c : Dev nD) (t : Fin 14) : Dev nD := if t.val < 5 then rgt c else if t.val < 10 then lft c else prt c
/-- Who addresses device `c` in transfer `t`. -/
def src (c : Dev nD) (t : Fin 14) : Dev nD := if t.val < 5 then lft c else if t.val < 10 then rgt c else prt c
/-- The piece device `c` receives in transfer `t`. -/
def got (c : Dev nD) (t : Fin 14) : ℕ := sent (src c t) t

theorem src_dst (c : Dev nD) (t : Fin 14) : src (dst c t) t = c := by
  unfold src dst; split
  · exact lft_rgt c
  · split
    · exact rgt_lft c
    · exact prt_prt c
theorem dst_src (c : Dev nD) (t : Fin 14) : dst (src c t) t = c := by
  unfold src dst; split
  · exact rgt_lft c
  · split
    · exact lft_rgt c
    · exact prt_prt c
/-- What `c` sends in transfer `t` is what its addressee receives in it. -/
theorem got_dst (c : Dev nD) (t : Fin 14) : got (dst c t) t = sent c t := by unfold got; rw [src_dst]

theorem sent_lt (c : Dev nD) (t : Fin 14) : sent c t < 16 := by revert c t; decide +kernel
theorem got_lt (c : Dev nD) (t : Fin 14) : got c t < 16 := sent_lt _ _

/-- The transfers as a permutation of the devices, for each `t`: who sends to whom. -/
def dstEquiv (t : Fin 14) : Dev nD ≃ Dev nD := ⟨fun c => dst c t, fun c => src c t, fun c => src_dst c t, fun c => dst_src c t⟩

/-! ## The sixteen pieces on one device -/

/-- Every piece is either one of the device's own two or received in exactly one transfer. -/
theorem own_or_got (c : Dev nD) (p : Fin 16) : (p.val / 2 = c.val ∧ ∀ t, got c t ≠ p.val) ∨ (p.val / 2 ≠ c.val ∧ ∃ t, got c t = p.val) := by
  revert c p; decide +kernel
theorem got_injective (c : Dev nD) : Function.Injective (got c) := by revert c; decide +kernel

/-! ## What the kernel's index chains compute -/

theorem dev1 (c : Dev nD) : (⟨k0_dev1 c, k0_dev1_lt c⟩ : Dev nD) = lft c := by revert c; decide +kernel
theorem dev2 (c : Dev nD) : (⟨k0_dev2 c, k0_dev2_lt c⟩ : Dev nD) = rgt c := by revert c; decide +kernel
theorem dev3 (c : Dev nD) : (⟨k0_dev3 c, k0_dev3_lt c⟩ : Dev nD) = prt c := by revert c; decide +kernel
theorem dev4 (c : Dev nD) : (⟨k0_dev4 c, k0_dev4_lt c⟩ : Dev nD) = dst c 0 := by revert c; decide +kernel
theorem dev5 (c : Dev nD) : (⟨k0_dev5 c, k0_dev5_lt c⟩ : Dev nD) = dst c 1 := by revert c; decide +kernel
theorem dev6 (c : Dev nD) : (⟨k0_dev6 c, k0_dev6_lt c⟩ : Dev nD) = dst c 5 := by revert c; decide +kernel
theorem dev7 (c : Dev nD) : (⟨k0_dev7 c, k0_dev7_lt c⟩ : Dev nD) = dst c 6 := by revert c; decide +kernel
theorem dev8 (c : Dev nD) : (⟨k0_dev8 c, k0_dev8_lt c⟩ : Dev nD) = dst c 10 := by revert c; decide +kernel
theorem dev9 (c : Dev nD) : (⟨k0_dev9 c, k0_dev9_lt c⟩ : Dev nD) = dst c 2 := by revert c; decide +kernel
theorem dev10 (c : Dev nD) : (⟨k0_dev10 c, k0_dev10_lt c⟩ : Dev nD) = dst c 7 := by revert c; decide +kernel
theorem dev11 (c : Dev nD) : (⟨k0_dev11 c, k0_dev11_lt c⟩ : Dev nD) = dst c 11 := by revert c; decide +kernel
theorem dev12 (c : Dev nD) : (⟨k0_dev12 c, k0_dev12_lt c⟩ : Dev nD) = dst c 3 := by revert c; decide +kernel
theorem dev13 (c : Dev nD) : (⟨k0_dev13 c, k0_dev13_lt c⟩ : Dev nD) = dst c 8 := by revert c; decide +kernel
theorem dev14 (c : Dev nD) : (⟨k0_dev14 c, k0_dev14_lt c⟩ : Dev nD) = dst c 12 := by revert c; decide +kernel
theorem dev15 (c : Dev nD) : (⟨k0_dev15 c, k0_dev15_lt c⟩ : Dev nD) = dst c 4 := by revert c; decide +kernel
theorem dev16 (c : Dev nD) : (⟨k0_dev16 c, k0_dev16_lt c⟩ : Dev nD) = dst c 9 := by revert c; decide +kernel
theorem dev17 (c : Dev nD) : (⟨k0_dev17 c, k0_dev17_lt c⟩ : Dev nD) = dst c 13 := by revert c; decide +kernel

/-- The first sends: the own pieces. -/
theorem off2_0 (c : Dev nD) : k0_off2 c 0#32 = ![64 * sent c 0, 0] := by revert c; decide +kernel
theorem off3_0 (c : Dev nD) : k0_off3 c 0#32 = ![64 * sent c 1, 0] := by revert c; decide +kernel
theorem off4_0 (c : Dev nD) : k0_off4 c 0#32 = ![64 * sent c 5, 0] := by revert c; decide +kernel
theorem off5_0 (c : Dev nD) : k0_off5 c 0#32 = ![64 * sent c 6, 0] := by revert c; decide +kernel
theorem off6 (c : Dev nD) : k0_off6 c = ![64 * sent c 10, 0] := by revert c; decide +kernel
/-- The own 128 rows. -/
theorem off1 (c : Dev nD) : k0_off1 c = ![128 * c.val, 0] := by revert c; decide +kernel
theorem off7 (c : Dev nD) : k0_off7 c = ![128 * c.val, 0] := by revert c; decide +kernel
theorem off8 (c : Dev nD) : k0_off8 c = ![128 * c.val, 0] := by revert c; decide +kernel
theorem off9 (c : Dev nD) : k0_off9 c = ![128 * c.val, 0] := by revert c; decide +kernel
/-- The later sends: pieces received before. -/
theorem off2_1 (c : Dev nD) : k0_off2 c 1#32 = ![64 * sent c 2, 0] := by revert c; decide +kernel
theorem off4_1 (c : Dev nD) : k0_off4 c 1#32 = ![64 * sent c 7, 0] := by revert c; decide +kernel
theorem off10 (c : Dev nD) : k0_off10 c = ![64 * sent c 11, 0] := by revert c; decide +kernel
theorem off3_1 (c : Dev nD) : k0_off3 c 1#32 = ![64 * sent c 3, 0] := by revert c; decide +kernel
theorem off5_1 (c : Dev nD) : k0_off5 c 1#32 = ![64 * sent c 8, 0] := by revert c; decide +kernel
theorem off21 (c : Dev nD) : k0_off21 c = ![64 * sent c 12, 0] := by revert c; decide +kernel
theorem off2_2 (c : Dev nD) : k0_off2 c 2#32 = ![64 * sent c 4, 0] := by revert c; decide +kernel
theorem off4_2 (c : Dev nD) : k0_off4 c 2#32 = ![64 * sent c 9, 0] := by revert c; decide +kernel
theorem off28 (c : Dev nD) : k0_off28 c = ![64 * sent c 13, 0] := by revert c; decide +kernel

/-- What is forwarded along the ring is what came two transfers before in the same direction. -/
theorem sent_2 (c : Dev nD) : sent c 2 = got c 0 := by revert c; decide +kernel
theorem sent_3 (c : Dev nD) : sent c 3 = got c 1 := by revert c; decide +kernel
theorem sent_4 (c : Dev nD) : sent c 4 = got c 2 := by revert c; decide +kernel
theorem sent_7 (c : Dev nD) : sent c 7 = got c 5 := by revert c; decide +kernel
theorem sent_8 (c : Dev nD) : sent c 8 = got c 6 := by revert c; decide +kernel
theorem sent_9 (c : Dev nD) : sent c 9 = got c 7 := by revert c; decide +kernel

/-- Own pieces: `sent c 0` and `sent c 1`, `sent c 6` and `sent c 5` are the lower and upper one. -/
theorem sent_0 (c : Dev nD) : sent c 0 = 2 * c.val := by revert c; decide +kernel
theorem sent_1 (c : Dev nD) : sent c 1 = 2 * c.val + 1 := by revert c; decide +kernel
theorem sent_5 (c : Dev nD) : sent c 5 = 2 * c.val + 1 := by revert c; decide +kernel
theorem sent_6 (c : Dev nD) : sent c 6 = 2 * c.val := by revert c; decide +kernel

/-- Across goes one of the own pieces, and then one of the two pieces that came last along the ring; `kept c k` is the
    other one of the two. -/
def kept (c : Dev nD) (k : Fin 4) : ℕ :=
  if k.val = 0 then 2 * c.val + pos c % 2
  else if pos c % 2 = 0 then pieceB c (k.val + 1) else pieceF c (k.val + 1)
theorem across_0 (c : Dev nD) : (sent c 10 = 2 * c.val ∧ kept c 0 = 2 * c.val + 1) ∨ (sent c 10 = 2 * c.val + 1 ∧ kept c 0 = 2 * c.val) := by
  revert c; decide +kernel
theorem across_1 (c : Dev nD) : (sent c 11 = got c 0 ∧ kept c 1 = got c 5) ∨ (sent c 11 = got c 5 ∧ kept c 1 = got c 0) := by
  revert c; decide +kernel
theorem across_2 (c : Dev nD) : (sent c 12 = got c 1 ∧ kept c 2 = got c 6) ∨ (sent c 12 = got c 6 ∧ kept c 2 = got c 1) := by
  revert c; decide +kernel
theorem across_3 (c : Dev nD) : (sent c 13 = got c 2 ∧ kept c 3 = got c 7) ∨ (sent c 13 = got c 7 ∧ kept c 3 = got c 2) := by
  revert c; decide +kernel

/-- Where a multiplied piece is loaded from, and where its product is stored and copied out. -/
theorem off11_1 (c : Dev nD) : k0_off11 c 1#32 = ![64 * got c 0, 0] := by revert c; decide +kernel
theorem off12_1 (c : Dev nD) : k0_off12 c 1#32 = ![64 * got c 0, 0] := by revert c; decide +kernel
theorem off13_1 (c : Dev nD) : k0_off13 c 1#32 = ![64 * got c 0, 0] := by revert c; decide +kernel
theorem off14_1 (c : Dev nD) : k0_off14 c 1#32 = ![64 * got c 5, 0] := by revert c; decide +kernel
theorem off15_1 (c : Dev nD) : k0_off15 c 1#32 = ![64 * got c 5, 0] := by revert c; decide +kernel
theorem off16_1 (c : Dev nD) : k0_off16 c 1#32 = ![64 * got c 5, 0] := by revert c; decide +kernel
theorem off18 (c : Dev nD) : k0_off18 c = ![64 * got c 10, 0] := by revert c; decide +kernel
theorem off19 (c : Dev nD) : k0_off19 c = ![64 * got c 10, 0] := by revert c; decide +kernel
theorem off20 (c : Dev nD) : k0_off20 c = ![64 * got c 10, 0] := by revert c; decide +kernel
theorem off22_1 (c : Dev nD) : k0_off22 c 1#32 = ![64 * got c 1, 0] := by revert c; decide +kernel
theorem off23_1 (c : Dev nD) : k0_off23 c 1#32 = ![64 * got c 1, 0] := by revert c; decide +kernel
theorem off24_1 (c : Dev nD) : k0_off24 c 1#32 = ![64 * got c 1, 0] := by revert c; decide +kernel
theorem off25_1 (c : Dev nD) : k0_off25 c 1#32 = ![64 * got c 6, 0] := by revert c; decide +kernel
theorem off26_1 (c : Dev nD) : k0_off26 c 1#32 = ![64 * got c 6, 0] := by revert c; decide +kernel
theorem off27_1 (c : Dev nD) : k0_off27 c 1#32 = ![64 * got c 6, 0] := by revert c; decide +kernel
theorem off11_2 (c : Dev nD) : k0_off11 c 2#32 = ![64 * got c 2, 0] := by revert c; decide +kernel
theorem off12_2 (c : Dev nD) : k0_off12 c 2#32 = ![64 * got c 2, 0] := by revert c; decide +kernel
theorem off13_2 (c : Dev nD) : k0_off13 c 2#32 = ![64 * got c 2, 0] := by revert c; decide +kernel
theorem off14_2 (c : Dev nD) : k0_off14 c 2#32 = ![64 * got c 7, 0] := by revert c; decide +kernel
theorem off15_2 (c : Dev nD) : k0_off15 c 2#32 = ![64 * got c 7, 0] := by revert c; decide +kernel
theorem off16_2 (c : Dev nD) : k0_off16 c 2#32 = ![64 * got c 7, 0] := by revert c; decide +kernel
theorem off30 (c : Dev nD) : k0_off30 c = ![64 * got c 11, 0] := by revert c; decide +kernel
theorem off31 (c : Dev nD) : k0_off31 c = ![64 * got c 11, 0] := by revert c; decide +kernel
theorem off32 (c : Dev nD) : k0_off32 c = ![64 * got c 11, 0] := by revert c; decide +kernel
theorem off22_2 (c : Dev nD) : k0_off22 c 2#32 = ![64 * got c 3, 0] := by revert c; decide +kernel
theorem off23_2 (c : Dev nD) : k0_off23 c 2#32 = ![64 * got c 3, 0] := by revert c; decide +kernel
theorem off24_2 (c : Dev nD) : k0_off24 c 2#32 = ![64 * got c 3, 0] := by revert c; decide +kernel
theorem off25_2 (c : Dev nD) : k0_off25 c 2#32 = ![64 * got c 8, 0] := by revert c; decide +kernel
theorem off26_2 (c : Dev nD) : k0_off26 c 2#32 = ![64 * got c 8, 0] := by revert c; decide +kernel
theorem off27_2 (c : Dev nD) : k0_off27 c 2#32 = ![64 * got c 8, 0] := by revert c; decide +kernel
theorem off34 (c : Dev nD) : k0_off34 c = ![64 * got c 12, 0] := by revert c; decide +kernel
theorem off35 (c : Dev nD) : k0_off35 c = ![64 * got c 12, 0] := by revert c; decide +kernel
theorem off36 (c : Dev nD) : k0_off36 c = ![64 * got c 12, 0] := by revert c; decide +kernel
theorem off11_3 (c : Dev nD) : k0_off11 c 3#32 = ![64 * got c 4, 0] := by revert c; decide +kernel
theorem off12_3 (c : Dev nD) : k0_off12 c 3#32 = ![64 * got c 4, 0] := by revert c; decide +kernel
theorem off13_3 (c : Dev nD) : k0_off13 c 3#32 = ![64 * got c 4, 0] := by revert c; decide +kernel
theorem off14_3 (c : Dev nD) : k0_off14 c 3#32 = ![64 * got c 9, 0] := by revert c; decide +kernel
theorem off15_3 (c : Dev nD) : k0_off15 c 3#32 = ![64 * got c 9, 0] := by revert c; decide +kernel
theorem off16_3 (c : Dev nD) : k0_off16 c 3#32 = ![64 * got c 9, 0] := by revert c; decide +kernel
theorem off38 (c : Dev nD) : k0_off38 c = ![64 * got c 13, 0] := by revert c; decide +kernel
theorem off39 (c : Dev nD) : k0_off39 c = ![64 * got c 13, 0] := by revert c; decide +kernel
theorem off40 (c : Dev nD) : k0_off40 c = ![64 * got c 13, 0] := by revert c; decide +kernel

end Cert.KProof

end
-- ==== Proof.Arrays.lean ====
/-
What the buffers hold.

`XG` is the gathered array: row `r` is row `r % 128` of the first argument on device `r / 128`. It is the same on every
device. `OUT c` is the result block of device `c`, its rows computed in the blocks the kernel multiplies: its own 128 rows
in one product, every other 64-row piece in a product of its own.
-/
module

public import proofs.«01_k».proof.Proof.Mesh
public import proofs.«01_k».proof.Proof.Gen.KernelIdeal.Skeleton
public import Idealize.ShloMosaic.Lib.ValueIdxCore
public import Idealize.ShloMosaic.Lib.ViewIndex

@[expose] public section

noncomputable section

namespace Cert.KProof

open Cert.KernelIdeal Cert.KernelIdeal.Gen
open Idealize.ShloMosaic Idealize.ShloMosaic.TcCoe Idealize.ShloMosaic.ValueIdx
open Idealize.SL Idealize.SL.Sem

variable {F : FTy → Type} [FloatOps F]
variable (m : (ℓ : Loc nD τ sig) → Buf (Elt F) ℓ)

/-! ## The buffers -/

abbrev xM : Memref sig .tc .hbm S128x1024 .f32 := Memref.whole main_arg0
abbrev aM : Memref sig .tc .hbm S1024x128 .f32 := Memref.whole main_arg1
abbrev vM : Memref sig .tc .hbm S1024x128 .f32 := Memref.whole main_v1
abbrev gM : Memref sig .tc .vmem S1024x1024 .f32 := Memref.whole cc0_scratch0
abbrev wM : Memref sig .tc .vmem S1024x128 .f32 := Memref.whole cc0_scratch1
abbrev oM : Memref sig .tc .vmem S1024x128 .f32 := Memref.whole cc0_scratch2

/-! ## Contents -/

/-- Row `r` of the gathered array at column `k`. -/
def xrow (r : ℕ) (k : Fin 1024) : Elt F .f32 :=
  (m (((⟨r / 128 % 8, Nat.mod_lt _ (by decide)⟩ : Dev nD) : Thread nD τ).loc main_arg0) : S128x1024.Idx → Elt F .f32)
    (ix2 ⟨r % 128, Nat.mod_lt _ (by decide)⟩ k)

/-- The gathered array. -/
def XG : S1024x1024.Idx → Elt F .f32 := fun i => xrow m (i 0).val (i 1)
/-- The `n` rows of it from row `lo` on. -/
def XB (n lo : ℕ) : (⟨2, ![n, 1024]⟩ : Shape).Idx → Elt F .f32 := fun i => xrow m (lo + (i 0).val) (i 1)
/-- The second argument on device `c`. -/
def WV (c : Dev nD) : S1024x128.Idx → Elt F .f32 := m ((c : Thread nD τ).loc main_arg1)

/-- The product of the own rows. -/
def ownOut (c : Dev nD) : S128x128.Idx → Elt F .f32 := k0_pay1 (XB m 128 (128 * c.val)) (WV m c)
/-- The product of piece `p`. -/
def pieceOut (c : Dev nD) (p : ℕ) : S64x128.Idx → Elt F .f32 := k0_pay2 (XB m 64 (64 * p)) (WV m c)
/-- The result block of device `c`. -/
def OUT (c : Dev nD) : S1024x128.Idx → Elt F .f32 := fun i =>
  if (i 0).val / 128 = c.val then ownOut m c (ix2 ⟨(i 0).val % 128, Nat.mod_lt _ (by decide)⟩ (i 1))
  else pieceOut m c ((i 0).val / 64) (ix2 ⟨(i 0).val % 64, Nat.mod_lt _ (by decide)⟩ (i 1))

/-! ## Sets of rows -/

/-- The rows `lo`, …, `lo + n - 1` of an array of 1024 rows. -/
def rows (w lo n : ℕ) : Finset (⟨2, ![1024, w]⟩ : Shape).Idx := Finset.univ.filter fun i => lo ≤ (i 0).val ∧ (i 0).val < lo + n

theorem mem_rows {w lo n : ℕ} {i : (⟨2, ![1024, w]⟩ : Shape).Idx} : i ∈ rows w lo n ↔ lo ≤ (i 0).val ∧ (i 0).val < lo + n := by
  unfold rows; rw [Finset.mem_filter]; exact ⟨fun h => h.2, fun h => ⟨Finset.mem_univ _, h⟩⟩

/-- A rectangle of whole rows is its rows. -/
theorem rect_rows {w lo n : ℕ} {o : Fin 2 → ℕ} (ho : o = ![lo, 0])
    (h : ∀ a, o a + (![n, w] : Fin 2 → ℕ) a ≤ (⟨2, ![1024, w]⟩ : Shape).size a) :
    (Rect.unit (s := (⟨2, ![1024, w]⟩ : Shape)) o ![n, w] h).set = rows w lo n := by
  subst ho
  ext i
  rw [Rect.mem_set_unit, mem_rows]
  constructor
  · intro hi; exact hi 0
  · intro hi a
    match a with
    | ⟨0, _⟩ => exact hi
    | ⟨1, _⟩ => exact ⟨Nat.zero_le _, by simpa using (i 1).isLt⟩

theorem rows_disjoint {w lo n lo' n' : ℕ} (h : lo + n ≤ lo' ∨ lo' + n' ≤ lo) : Disjoint (rows w lo n) (rows w lo' n') := by
  rw [Finset.disjoint_left]; intro i hi hi'
  rw [mem_rows] at hi hi'; omega

theorem rows_append {w lo n n' : ℕ} : rows w lo (n + n') = rows w lo n ∪ rows w (lo + n) n' := by
  ext i; rw [Finset.mem_union, mem_rows, mem_rows, mem_rows]; omega

theorem rows_all {w : ℕ} : rows w 0 1024 = Finset.univ := by
  ext i; rw [mem_rows]; have := (i 0).isLt; simp only [Finset.mem_univ, iff_true]; exact ⟨Nat.zero_le _, by simpa using this⟩

/-! ## Reading and writing rows -/

section Access
variable {Val : EltTy → Type} {w lo n : ℕ} {o : Fin 2 → ℕ}

/-- Where element `x` of a rectangle of whole rows lies. -/
theorem unit_idx_0 (ho : o = ![lo, 0]) (h : ∀ a, o a + (![n, w] : Fin 2 → ℕ) a ≤ (⟨2, ![1024, w]⟩ : Shape).size a)
    (x : (⟨2, ![n, w]⟩ : Shape).Idx) :
    ((Rect.unit (s := (⟨2, ![1024, w]⟩ : Shape)) o ![n, w] h).emb x 0).val = lo + (x 0).val := by
  subst ho; show lo + 1 * (x 0).val = _; omega
theorem unit_idx_1 (ho : o = ![lo, 0]) (h : ∀ a, o a + (![n, w] : Fin 2 → ℕ) a ≤ (⟨2, ![1024, w]⟩ : Shape).size a)
    (x : (⟨2, ![n, w]⟩ : Shape).Idx) :
    ((Rect.unit (s := (⟨2, ![1024, w]⟩ : Shape)) o ![n, w] h).emb x 1) = x 1 := by
  subst ho; apply Fin.ext; show 0 + 1 * (x 1).val = _; omega

end Access

/-- Rows of the gathered array read through a slice of it. -/
theorem read_XG {lo n : ℕ} {o : Fin 2 → ℕ} (ho : o = ![lo, 0]) (h : ∀ a, o a + (![n, 1024] : Fin 2 → ℕ) a ≤ S1024x1024.size a) :
    (gM.view.slice (Rect.unit (s := S1024x1024) o ![n, 1024] h)).read (Elt F) (XG m) = XB m n lo := by
  funext x
  rw [View.read_apply]
  show XG m ((Rect.unit (s := S1024x1024) o ![n, 1024] h).emb x) = _
  unfold XG XB
  rw [unit_idx_0 ho h x]
  exact congrArg (xrow m (lo + (x 0).val)) (unit_idx_1 ho h x)

/-- Writing rows of the gathered array at their place gives those rows of it. -/
theorem write_XG {lo n : ℕ} {o : Fin 2 → ℕ} (ho : o = ![lo, 0]) (h : ∀ a, o a + (![n, 1024] : Fin 2 → ℕ) a ≤ S1024x1024.size a)
    (f : S1024x1024.Idx → Elt F .f32) (i : S1024x1024.Idx) (hi : i ∈ rows 1024 lo n) :
    (gM.view.slice (Rect.unit (s := S1024x1024) o ![n, 1024] h)).write (Elt F) f (XB m n lo) Finset.univ i = XG m i := by
  rw [← rect_rows ho h] at hi
  have hi' : i ∈ (gM.view.slice (Rect.unit (s := S1024x1024) o ![n, 1024] h)).set := by
    rw [show (gM.view.slice (Rect.unit (s := S1024x1024) o ![n, 1024] h)).set = _ from View.set_slice_whole _ _]; exact hi
  obtain ⟨x, rfl⟩ := View.exists_of_mem_set_slice hi'
  rw [show gM.view.emb ((Rect.unit (s := S1024x1024) o ![n, 1024] h).emb x) = (gM.view.slice (Rect.unit (s := S1024x1024) o ![n, 1024] h)).emb x from rfl, View.write_emb_of_mem _ _ (Finset.mem_univ _)]
  show XB m n lo x = XG m ((Rect.unit (s := S1024x1024) o ![n, 1024] h).emb x)
  unfold XG XB
  rw [unit_idx_0 ho h x]
  exact congrArg (xrow m (lo + (x 0).val)) (unit_idx_1 ho h x).symm

/-- The own rows of the gathered array are the first argument. -/
theorem XB_own (c : Dev nD) : XB m 128 (128 * c.val) = (m ((c : Thread nD τ).loc main_arg0) : S128x1024.Idx → Elt F .f32) := by
  funext i
  have h0 : (i 0).val < 128 := (i 0).isLt
  have hc : c.val < 8 := c.isLt
  unfold XB xrow
  have hd : (⟨(128 * c.val + (i 0).val) / 128 % 8, Nat.mod_lt _ (by decide)⟩ : Dev nD) = c := Fin.ext (by show _ / 128 % 8 = c.val; omega)
  have hr : (⟨(128 * c.val + (i 0).val) % 128, Nat.mod_lt _ (by decide)⟩ : Fin 128) = i 0 := Fin.ext (by show _ % 128 = (i 0).val; omega)
  rw [hd, hr]
  exact congrArg _ (eq_ix2 i).symm

/-- The own rows of the result block, -/
theorem OUT_own (c : Dev nD) (x : S128x128.Idx) (i : S1024x128.Idx) (h0 : (i 0).val = 128 * c.val + (x 0).val) (h1 : i 1 = x 1) :
    OUT m c i = ownOut m c x := by
  have hx : (x 0).val < 128 := (x 0).isLt
  unfold OUT
  rw [if_pos (by omega)]
  have hr : (⟨(i 0).val % 128, Nat.mod_lt _ (by decide)⟩ : Fin 128) = x 0 := Fin.ext (by show (i 0).val % 128 = _; omega)
  rw [hr, h1]
  exact congrArg _ (eq_ix2 x).symm
/-- and those of a piece of another device. -/
theorem OUT_piece (c : Dev nD) (p : ℕ) (hp : p / 2 ≠ c.val) (x : S64x128.Idx) (i : S1024x128.Idx) (h0 : (i 0).val = 64 * p + (x 0).val) (h1 : i 1 = x 1) :
    OUT m c i = pieceOut m c p x := by
  have hx : (x 0).val < 64 := (x 0).isLt
  unfold OUT
  rw [if_neg (by omega)]
  have hr : (⟨(i 0).val % 64, Nat.mod_lt _ (by decide)⟩ : Fin 64) = x 0 := Fin.ext (by show (i 0).val % 64 = _; omega)
  rw [hr, h1, show (i 0).val / 64 = p by omega]
  exact congrArg _ (eq_ix2 x).symm

/-- Rows written in the block of products: what was stored, at its place. -/
theorem write_out {lo n : ℕ} {o : Fin 2 → ℕ} (ho : o = ![lo, 0]) (h : ∀ a, o a + (![n, 128] : Fin 2 → ℕ) a ≤ S1024x128.size a)
    (f g : S1024x128.Idx → Elt F .f32) (u : (⟨2, ![n, 128]⟩ : Shape).Idx → Elt F .f32)
    (hu : ∀ (x : (⟨2, ![n, 128]⟩ : Shape).Idx) (i : S1024x128.Idx), (i 0).val = lo + (x 0).val → i 1 = x 1 → g i = u x)
    (i : S1024x128.Idx) (hi : i ∈ rows 128 lo n) :
    (oM.access (Rect.unit (s := S1024x128) o ![n, 128] h)).write (Elt F) f u Finset.univ i = g i := by
  rw [← rect_rows ho h] at hi
  have hi' : i ∈ (oM.view.slice (Rect.unit (s := S1024x128) o ![n, 128] h)).set := by
    rw [show (oM.view.slice (Rect.unit (s := S1024x128) o ![n, 128] h)).set = _ from View.set_slice_whole _ _]; exact hi
  obtain ⟨x, rfl⟩ := View.exists_of_mem_set_slice hi'
  rw [show oM.view.emb ((Rect.unit (s := S1024x128) o ![n, 128] h).emb x) = (oM.access (Rect.unit (s := S1024x128) o ![n, 128] h)).emb x from rfl, View.write_emb_of_mem _ _ (Finset.mem_univ _)]
  exact (hu x _ (unit_idx_0 ho h x) (unit_idx_1 ho h x)).symm

/-- Rows copied from the block of products to the result. -/
theorem copy_out {lo n : ℕ} {o : Fin 2 → ℕ} (ho : o = ![lo, 0]) (h : ∀ a, o a + (![n, 128] : Fin 2 → ℕ) a ≤ S1024x128.size a)
    (f g : S1024x128.Idx → Elt F .f32) (i : S1024x128.Idx) (hi : i ∈ rows 128 lo n) :
    (vM.view.slice (Rect.unit (s := S1024x128) o ![n, 128] h)).write (Elt F) f
      ((oM.view.slice (Rect.unit (s := S1024x128) o ![n, 128] h)).read (Elt F) g) Finset.univ i = g i := by
  rw [← rect_rows ho h] at hi
  have hi' : i ∈ (vM.view.slice (Rect.unit (s := S1024x128) o ![n, 128] h)).set := by
    rw [show (vM.view.slice (Rect.unit (s := S1024x128) o ![n, 128] h)).set = _ from View.set_slice_whole _ _]; exact hi
  obtain ⟨x, rfl⟩ := View.exists_of_mem_set_slice hi'
  rw [show vM.view.emb ((Rect.unit (s := S1024x128) o ![n, 128] h).emb x) = (vM.view.slice (Rect.unit (s := S1024x128) o ![n, 128] h)).emb x from rfl, View.write_emb_of_mem _ _ (Finset.mem_univ _)]
  rfl

end Cert.KProof

end
-- ==== Proof.Protocol.lean ====
/-
The protocol: what each semaphore's credit stands for.

Every semaphore is used for one round. A transfer's receive semaphore hands over the piece received, its send semaphore
the share of the piece that was being read; a copy's semaphore hands over both ends of the copy; the barrier's three units
hand over the places on the three neighbours where this device's pieces are to land.

A piece that is both sent on and multiplied is held in four quarter shares: one for the transfer to the right, one for
that to the left, one for that across, and one for the loads.
-/
module

public import proofs.«01_k».proof.Proof.Arrays
public import proofs.«01_k».proof.Proof.Gen.KernelIdeal.Launch
public import proofs.«01_k».proof.Proof.Gen.KernelIdeal.Points
public import Idealize.ShloMosaic.Lib.Rounds
public import Idealize.ShloMosaic.Lib.Pipeline.Launch
public import Idealize.ShloMosaic.Lib.Pipeline.Kit
public import Idealize.ShloMosaic.Lib.Tactic

@[expose] public section

noncomputable section

namespace Cert.KProof

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU : Type := UR sig nD τ × URounds (GSem nD τ sig) (Fin 3)

local notation "𝕄" => MT nD τ sig Unit (Elt F) ℕ UU ℕ

abbrev EP : Emb (UR sig nD τ) (MT nD τ sig Unit (Elt F) ℕ UU ℕ) := embL
abbrev ER : Emb (URounds (GSem nD τ sig) (Fin 3)) (MT nD τ sig Unit (Elt F) ℕ UU ℕ) := embR

variable (m : (ℓ : Loc nD τ sig) → Buf (Elt F) ℓ)

/-! ## The semaphores -/

/-- What a DMA semaphore is for: a transfer's sending or receiving end, the copy in of either argument, the copy out of
    the own rows' product or of that of the piece received in a transfer. -/
inductive Role
  | snd (t : Fin 14) | rcv (t : Fin 14) | argX | argW | outOwn | out (t : Fin 14)
  deriving DecidableEq

/-- The transfer whose piece is copied out with the `i`-th semaphore. -/
def slotT : Fin 14 → Fin 14 := ![0, 5, 10, 1, 6, 2, 7, 11, 3, 8, 12, 4, 9, 13]
def slotI : Fin 14 → Fin 14 := ![0, 3, 5, 8, 11, 1, 4, 6, 9, 12, 2, 7, 10, 13]

def role (n : Fin 45) : Role :=
  if h : n.val < 5 then .snd ⟨n.val, by omega⟩
  else if h : n.val < 10 then .rcv ⟨n.val - 5, by omega⟩
  else if h : n.val < 15 then .snd ⟨n.val - 5, by omega⟩
  else if h : n.val < 20 then .rcv ⟨n.val - 10, by omega⟩
  else if h : n.val < 24 then .snd ⟨n.val - 10, by omega⟩
  else if h : n.val < 28 then .rcv ⟨n.val - 14, by omega⟩
  else if n.val = 28 then .argX
  else if n.val = 29 then .argW
  else if h : n.val = 30 then .outOwn
  else .out (slotT ⟨n.val - 31, by omega⟩)

def semOf : Role → Fin 45
  | .snd t => ⟨if t.val < 5 then t.val else if t.val < 10 then t.val + 5 else t.val + 10, by split <;> [skip; split] <;> omega⟩
  | .rcv t => ⟨if t.val < 5 then t.val + 5 else if t.val < 10 then t.val + 10 else t.val + 14, by split <;> [skip; split] <;> omega⟩
  | .argX => 28
  | .argW => 29
  | .outOwn => 30
  | .out t => ⟨31 + (slotI t).val, by omega⟩

theorem role_semOf (r : Role) : role (semOf r) = r := by
  cases r with
  | snd t => revert t; decide +kernel
  | rcv t => revert t; decide +kernel
  | out t => revert t; decide +kernel
  | _ => decide +kernel
theorem semOf_role (n : Fin 45) : semOf (role n) = n := by revert n; decide +kernel

/-- The cell of role `r` on device `c`, and its barrier cell. -/
abbrev cell (c : Dev nD) (r : Role) : GSem nD τ sig := ((c : Thread nD τ), .dma (semOf r))
abbrev bar (c : Dev nD) : GSem nD τ sig := ((c : Thread nD τ), .reg barrier0)

/-- The semaphores of one device: the barrier (`none`) and the 45 of the copies. -/
abbrev csem : Option (Fin 45) → SemLoc sig
  | none => .reg barrier0
  | some n => .dma n
abbrev kcell (ck : Dev nD × Option (Fin 45)) : GSem nD τ sig := ((ck.1 : Thread nD τ), csem ck.2)

/-! ## What is held -/

/-- Share `q` of the gathered array's rows `lo`, …, `lo + n - 1` on device `c`. -/
def Rows (c : Dev nD) (lo n : ℕ) (q : PosShare TreeShare) : sProp 𝕄 :=
  (((c : Thread nD τ).loc cc0_scratch0) ↦[rows 1024 lo n]{q} XG m)
/-- A piece of it. -/
def Piece (c : Dev nD) (p : ℕ) (q : PosShare TreeShare) : sProp 𝕄 := Rows m c (64 * p) 64 q

/-- The rows where the piece of transfer `t` is to land on device `c`. -/
def Land (c : Dev nD) (t : Fin 14) : sProp 𝕄 :=
  iprop(∃ f : Buf (Elt F) ((c : Thread nD τ).loc cc0_scratch0), ((c : Thread nD τ).loc cc0_scratch0) ↦[rows 1024 (64 * got c t) 64]{fullShare} f)

/-- The second argument, in place and in its copy. -/
def WBuf (c : Dev nD) : sProp 𝕄 := (((c : Thread nD τ).loc cc0_scratch1) ↦{fullShare} WV m c)
def Arg0 (c : Dev nD) : sProp 𝕄 := (((c : Thread nD τ).loc main_arg0) ↦{fullShare} m ((c : Thread nD τ).loc main_arg0))
def Arg1 (c : Dev nD) : sProp 𝕄 := (((c : Thread nD τ).loc main_arg1) ↦{fullShare} m ((c : Thread nD τ).loc main_arg1))

/-- Rows of the products and of the result, at any contents and at the final ones. -/
def Blank (c : Dev nD) (lo n : ℕ) : sProp 𝕄 :=
  iprop((∃ f : Buf (Elt F) ((c : Thread nD τ).loc cc0_scratch2), ((c : Thread nD τ).loc cc0_scratch2) ↦[rows 128 lo n]{fullShare} f)
    ∗ (∃ f : Buf (Elt F) ((c : Thread nD τ).loc main_v1), ((c : Thread nD τ).loc main_v1) ↦[rows 128 lo n]{fullShare} f))
def Done (c : Dev nD) (lo n : ℕ) : sProp 𝕄 :=
  iprop((((c : Thread nD τ).loc cc0_scratch2) ↦[rows 128 lo n]{fullShare} OUT m c) ∗ (((c : Thread nD τ).loc main_v1) ↦[rows 128 lo n]{fullShare} OUT m c))

/-- The quarter share a transfer reads through, and the one kept for the loads. -/
def shareT (t : Fin 14) : PosShare TreeShare :=
  if t.val < 5 then fullShare.left.left else if t.val < 10 then fullShare.left.right else fullShare.right.left
abbrev shareK : PosShare TreeShare := fullShare.right.right

/-! ## Payloads -/

def landF (c : Dev nD) : sProp 𝕄 := iprop(Land c 0 ∗ Land c 1 ∗ Land c 2 ∗ Land c 3 ∗ Land c 4)
def landB (c : Dev nD) : sProp 𝕄 := iprop(Land c 5 ∗ Land c 6 ∗ Land c 7 ∗ Land c 8 ∗ Land c 9)
def landE (c : Dev nD) : sProp 𝕄 := iprop(Land c 10 ∗ Land c 11 ∗ Land c 12 ∗ Land c 13)

/-- What the three signals hand to device `c`: from its right neighbour, its left one, the one across. -/
def barPay (c : Dev nD) : Fin 3 → sProp 𝕄
  | 0 => landF (rgt c)
  | 1 => landB (lft c)
  | 2 => landE (prt c)

/-- What the semaphore of role `r` hands to device `c`. -/
def pay (c : Dev nD) : Role → sProp 𝕄
  | .snd t => Piece m c (sent c t) (shareT t)
  | .rcv t => Piece m c (got c t) fullShare
  | .argX => iprop(Rows m c (128 * c.val) 128 fullShare ∗ Arg0 m c)
  | .argW => iprop(WBuf m c ∗ Arg1 m c)
  | .outOwn => Done m c (128 * c.val) 128
  | .out t => Done m c (64 * got c t) 64

/-- The credit of the copy of role `r`. -/
def credit : Role → ℕ
  | .snd _ => (gM.slice (Rect.unit (s := S1024x1024) ![0, 0] S64x1024.size (by decide)) (fun _ => rfl)).view.dmaCredit
  | .rcv _ => (gM.slice (Rect.unit (s := S1024x1024) ![0, 0] S64x1024.size (by decide)) (fun _ => rfl)).view.dmaCredit
  | .argX => (gM.slice (Rect.unit (s := S1024x1024) ![0, 0] S128x1024.size (by decide)) (fun _ => rfl)).view.dmaCredit
  | .argW => wM.view.dmaCredit
  | .outOwn => (vM.slice (Rect.unit (s := S1024x128) ![0, 0] S128x128.size (by decide)) (fun _ => rfl)).view.dmaCredit
  | .out _ => (vM.slice (Rect.unit (s := S1024x128) ![0, 0] S64x128.size (by decide)) (fun _ => rfl)).view.dmaCredit

theorem credit_pos (r : Role) : 0 < credit r := by cases r <;> exact View.dmaCredit_pos _ (by decide)

instance pay_storable (c : Dev nD) (r : Role) : BI.Storable (upEmb : UEmb _ 𝕄) (pay (F := F) m c r) := by
  cases r <;> unfold pay <;> (try unfold Piece) <;> (try unfold Rows) <;> (try unfold Done) <;> (try unfold WBuf) <;> (try unfold Arg0) <;> (try unfold Arg1) <;> infer_instance
omit [FloatOps F] in
instance Land_storable (c : Dev nD) (t : Fin 14) : BI.Storable (upEmb : UEmb _ 𝕄) (Land (F := F) c t) := by unfold Land; infer_instance
omit [FloatOps F] in
instance barPay_storable (c : Dev nD) (d : Fin 3) : BI.Storable (upEmb : UEmb _ 𝕄) (barPay (F := F) c d) := by
  match d with
  | 0 => unfold barPay landF; infer_instance
  | 1 => unfold barPay landB; infer_instance
  | 2 => unfold barPay landE; infer_instance

/-- The schedule: one round a cell; the barrier's of three units, a copy's of its credit. -/
def Rd : Rounds.Schedule (GSem nD τ sig) (Fin 3) 𝕄 where
  duties g r := if r = 0 then (match g.2 with | .reg _ => Finset.univ | .dma _ => {0}) else ∅
  unitless _ := False
  amount g _ _ := match g.2 with | .reg _ => 1 | .dma n => credit (role n)
  payload g _ d := match g.2 with | .reg _ => barPay g.1.1 d | .dma n => pay m g.1.1 (role n)
  amount_pos g _ _ _ := by
    match g with
    | (_, .reg _) => exact Nat.one_pos
    | (_, .dma _) => exact credit_pos _

instance Rd_storable (g : GSem nD τ sig) (r : ℕ) (d : Fin 3) : BI.Storable (upEmb : UEmb _ 𝕄) ((Rd (F := F) m).payload g r d) := by
  match g with
  | (th, .reg _) => exact barPay_storable _ _
  | (th, .dma n) => exact pay_storable m _ _

section Sched
variable (c : Dev nD) (r : Role)

theorem duties_bar : (Rd (F := F) m).duties (bar c) 0 = Finset.univ := rfl
theorem duties_cell : (Rd (F := F) m).duties (cell c r) 0 = {0} := rfl
theorem duties_later (g : GSem nD τ sig) : ∀ r, 1 ≤ r → (Rd (F := F) m).duties g r = ∅ := fun r hr => if_neg (by omega)
theorem amount_bar (d : Fin 3) : (Rd (F := F) m).amount (bar c) 0 d = 1 := rfl
theorem amount_cell (d : Fin 3) : (Rd (F := F) m).amount (cell c r) 0 d = credit r := congrArg credit (role_semOf r)
theorem payload_bar (d : Fin 3) : (Rd (F := F) m).payload (bar c) 0 d = barPay c d := rfl
theorem payload_cell (d : Fin 3) : (Rd (F := F) m).payload (cell c r) 0 d = pay m c r := congrArg (pay m c) (role_semOf r)
theorem expect_bar : (Rd (F := F) m).expect (bar c) 0 = 3 := by
  unfold Schedule.expect Schedule.amountOf; rw [duties_bar]; rfl
theorem expect_cell : (Rd (F := F) m).expect (cell c r) 0 = credit r := by
  unfold Schedule.expect Schedule.amountOf; rw [duties_cell, Finset.sum_singleton, amount_cell]
theorem rest_cell : bigSep ((Rd (F := F) m).duties (cell c r) 0 \ ∅) (fun d => (Rd (F := F) m).payload (cell c r) 0 d) = pay m c r := by
  rw [Finset.sdiff_empty, duties_cell, bigSep_singleton, payload_cell]
theorem rest_bar : bigSep ((Rd (F := F) m).duties (bar c) 0 \ ∅) (fun d => (Rd (F := F) m).payload (bar c) 0 d)
    = iprop(landF (rgt c) ∗ landB (lft c) ∗ landE (prt c)) := by
  rw [Finset.sdiff_empty, duties_bar, bigSep_univ_eq_bigSepL [0, 1, 2] (by decide) (by decide)]; rfl

end Sched

/-! ## What is owed, and the levels -/

/-- What the transfers of the list still owe their addressees' receive cells. -/
def owed (c : Dev nD) : List (Fin 14) → CellTallies nD τ sig Unit
  | [] => 0
  | t :: l => owed c l + tallyAt (cell (dst c t) (.rcv t)) () (credit (.rcv t))

/-- The transfers in the order the kernel starts them. -/
def order : List (Fin 14) := [0, 1, 5, 6, 10, 2, 7, 11, 3, 8, 12, 4, 9, 13]

/-- All device `c` owes: its transfers, and its three signals. -/
def O₀ (c : Dev nD) : CellTallies nD τ sig Unit :=
  owed c order + tallyAt (bar (prt c)) () 1 + tallyAt (bar (rgt c)) () 1 + tallyAt (bar (lft c)) () 1

/-- The level of a transfer's receive cell: how many steps the piece has gone. -/
def lvT (t : Fin 14) : ℕ := if t.val < 5 then 2 + t.val else if t.val < 10 then t.val - 3 else t.val - 7
def lvR : Role → ℕ
  | .rcv t => lvT t
  | _ => 0
def lvS : SemLoc sig → ℕ
  | .reg _ => 1
  | .dma n => lvR (role n)
def L (g : GSem nD τ sig) : Finset Unit := if g.1.2 = .tc then {()} else ∅
def lv (g : GSem nD τ sig) (_ : Unit) : ℕ := lvS g.2
theorem L_of_ne (g : GSem nD τ sig) (h : g.1.2 ≠ .tc) : L g = ∅ := if_neg h
theorem L_tc (c : Dev nD) (sm : SemLoc sig) : L ((c : Thread nD τ), sm) = {()} := if_pos rfl

theorem lvS_cell (r : Role) : lvS (.dma (semOf r)) = lvR r := congrArg lvR (role_semOf r)

theorem tallyAt_pos {g g' : GSem nD τ sig} {k : ℕ} {u : Unit} (h : 0 < tallyAt g' () k g u) : g = g' := by
  rw [tallyAt_apply] at h
  by_contra hn
  rw [if_neg (fun h' => hn h'.1)] at h
  exact Nat.lt_irrefl 0 h

theorem add_pos_cases {A B : CellTallies nD τ sig Unit} {g : GSem nD τ sig} {u : Unit} (h : 0 < (A + B) g u) : 0 < A g u ∨ 0 < B g u := by
  rw [Pi.add_apply, Finsupp.add_apply] at h; omega

theorem owed_pos {c : Dev nD} {l : List (Fin 14)} {g : GSem nD τ sig} {u : Unit} (h : 0 < owed c l g u) :
    ∃ t ∈ l, g = cell (dst c t) (.rcv t) := by
  induction l with
  | nil => exact absurd h (Nat.lt_irrefl 0)
  | cons t l ih =>
    rcases add_pos_cases h with h | h
    · obtain ⟨t', ht', hg⟩ := ih h; exact ⟨t', List.mem_cons_of_mem _ ht', hg⟩
    · exact ⟨t, List.mem_cons_self, tallyAt_pos h⟩

/-- A wait is allowed when every transfer still owed is of a higher level. -/
theorem mayWait (c : Dev nD) (sm : SemLoc sig) (l : List (Fin 14)) (h : ∀ t ∈ l, lvS sm < lvT t) :
    (levAts L lv : sProp 𝕄) ⊢ MayWait (c : Thread nD τ) sm () (owed c l) :=
  MayOwe.of_cut (L := L) (lev := lv) (lvS sm) (fun p hp => by rw [Finset.mem_singleton.mp hp, L_tc]; exact Finset.mem_singleton_self _)
    (fun g u hg => by obtain ⟨t, _, rfl⟩ := owed_pos hg; rw [L_tc]; exact Finset.mem_singleton_self _)
    (fun p hp => by rw [Finset.mem_singleton.mp hp]; exact le_refl _)
    (fun g u hg => by
      obtain ⟨t, ht, rfl⟩ := owed_pos hg
      show lvS sm < lvS (.dma (semOf (.rcv t))); rw [lvS_cell]; exact h t ht)

/-- What is owed, whatever waits are recorded. -/
def Owes (c : Dev nD) (O : CellTallies nD τ sig Unit) : sProp 𝕄 := iprop(∃ W, owes (c : Thread nD τ) O W)

/-! ## The records and the tokens -/

/-- Every cell of every device is kept by the protocol, at its first round; the levels. -/
def Rec : sProp 𝕄 :=
  iprop(∃ K : Dev nD × Option (Fin 45) → ℕ,
    (bigSep Finset.univ fun ck => iprop(cellInv ER (Rd m) (K ck) (kcell ck) ∗ reached ER (kcell ck) 0)) ∗ levAts L lv)

instance Rec_persistent : BI.Persistent (Rec (F := F) m) := by unfold Rec; infer_instance

theorem rec_at (ck : Dev nD × Option (Fin 45)) :
    Rec (F := F) m ⊢ iprop(∃ κ : ℕ, cellInv ER (Rd m) κ (kcell ck) ∗ reached ER (kcell ck) 0) := by
  unfold Rec
  iintro ⟨%K, H, -⟩
  ihave H' := (show (bigSep Finset.univ fun ck => iprop(cellInv ER (Rd (F := F) m) (K ck) (kcell ck) ∗ reached ER (kcell ck) 0))
    ⊢ iprop(cellInv ER (Rd m) (K ck) (kcell ck) ∗ reached ER (kcell ck) 0) from by
      rw [bigSep_univ_at _ ck]; exact sep_elim_left) $$ H
  iexists K ck; iexact H'

theorem rec_cell (c : Dev nD) (r : Role) : Rec (F := F) m ⊢ iprop(∃ κ : ℕ, cellInv ER (Rd m) κ (cell c r) ∗ reached ER (cell c r) 0) :=
  rec_at m (c, some (semOf r))
theorem rec_bar (c : Dev nD) : Rec (F := F) m ⊢ iprop(∃ κ : ℕ, cellInv ER (Rd m) κ (bar c) ∗ reached ER (bar c) 0) := rec_at m (c, none)
theorem rec_lev : Rec (F := F) m ⊢ levAts L lv := by unfold Rec; iintro ⟨%K, -, H⟩; iexact H

/-- To copy with the own cell of role `r`: its position and its token. -/
def Idle (c : Dev nD) (r : Role) : sProp 𝕄 := iprop(atPos ER (cell c r) 0 ∅ 0 ∗ dutyTok ER (cell c r) 0 0)
/-- A copy on its way to the own cell of role `r`. -/
def Busy (c : Dev nD) (r : Role) : sProp 𝕄 := iprop(atPos ER (cell c r) 0 ∅ 0 ∗ cred (tallyAt (cell c r) () (credit r)))
/-- The cell of role `r` at zero, its round over. -/
def Over (c : Dev nD) (r : Role) : sProp 𝕄 := semVal (cell c r) 0

end Cert.KProof

end
-- ==== Proof.Steps.lean ====
/-
The steps of the kernel, each proved once: a transfer started, a wait on a cell, the copies in of the arguments, the
product of a block of rows with its copy out, a signal, the wait on the barrier.
-/
module

public import proofs.«01_k».proof.Proof.Protocol

@[expose] public section

noncomputable section

namespace Cert.KProof

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- Program `p` runs on device `c` to `Q`. -/
abbrev Runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- Sixty-four rows of the gathered array, a hundred and twenty-eight, and those of the products and the result. -/
abbrev gSl (n : ℕ) (o : Fin 2 → ℕ) (h : ∀ a, o a + (![n, 1024] : Fin 2 → ℕ) a ≤ S1024x1024.size a) : Memref sig .tc .vmem ⟨2, ![n, 1024]⟩ .f32 :=
  gM.slice (Rect.unit (s := S1024x1024) o ![n, 1024] h) (fun _ => rfl)
abbrev oSl (n : ℕ) (o : Fin 2 → ℕ) (h : ∀ a, o a + (![n, 128] : Fin 2 → ℕ) a ≤ S1024x128.size a) : Memref sig .tc .vmem ⟨2, ![n, 128]⟩ .f32 :=
  oM.slice (Rect.unit (s := S1024x128) o ![n, 128] h) (fun _ => rfl)
abbrev vSl (n : ℕ) (o : Fin 2 → ℕ) (h : ∀ a, o a + (![n, 128] : Fin 2 → ℕ) a ≤ S1024x128.size a) : Memref sig .tc .hbm ⟨2, ![n, 128]⟩ .f32 :=
  vM.slice (Rect.unit (s := S1024x128) o ![n, 128] h) (fun _ => rfl)

theorem gSl_set {n lo : ℕ} {o : Fin 2 → ℕ} (ho : o = ![lo, 0]) (h) : (gSl n o h).view.set = rows 1024 lo n :=
  (View.set_slice_whole _ _).trans (rect_rows ho h)
theorem oSl_set {n lo : ℕ} {o : Fin 2 → ℕ} (ho : o = ![lo, 0]) (h) : (oSl n o h).view.set = rows 128 lo n :=
  (View.set_slice_whole _ _).trans (rect_rows ho h)
theorem vSl_set {n lo : ℕ} {o : Fin 2 → ℕ} (ho : o = ![lo, 0]) (h) : (vSl n o h).view.set = rows 128 lo n :=
  (View.set_slice_whole _ _).trans (rect_rows ho h)

/-- The transfers not yet started after the first `j`. -/
def todo (j : ℕ) : List (Fin 14) := order.drop j

/-- To send piece `sent c t`: the own cell idle, and the token of the addressee's. -/
def Out (c : Dev nD) (t : Fin 14) : sProp 𝕄 := iprop(Idle c (.snd t) ∗ dutyTok ER (cell (dst c t) (.rcv t)) 0 0)
/-- Where the product of the piece received by transfer `t` goes, and the cell its copy out uses. -/
def Room (c : Dev nD) (t : Fin 14) : sProp 𝕄 := iprop(Blank c (64 * got c t) 64 ∗ Idle c (.out t))

section Steps

variable {c : Dev nD} {α : Type} {Q : α → sProp (MT nD τ sig Unit (Elt F) ℕ UU ℕ)}

/-- Transfer `t` is started: the share of the piece it reads and the rows it lands in are handed over, and what is owed
    for it is paid. -/
theorem step_send (t : Fin 14) (j : ℕ) (hj : todo j = t :: todo (j + 1)) {o : Fin 2 → ℕ} {h h'} {n : Dev nD} {sS sR : DmaSem sig}
    (ho : o = ![64 * sent c t, 0]) (hn : n = dst c t) (hS : sS = semOf (.snd t)) (hR : sR = semOf (.rcv t))
    {hsc : (gSl 64 o h' : Memref sig (Dev.tc n : Thread nD τ).2.kind .vmem _ .f32).view.ref.isScScratch = false}
    {hsrc : (gSl 64 o h).view.WordExact} {hdst : (gSl 64 o h').view.WordExact}
    {hsem : DmaTarget.Typed .vmem (.dma sR) (.remote (Dev.tc n : Thread nD τ) (gSl 64 o h') (.dma sS) hsc)}
    {k : PUnit → Prog (TpuEff nD τ sig (Elt F) Λ₀ .tc) α} :
    Rec m ⊢ iprop(Owes c (owed c (todo j)) -∗ Out c t
      -∗ Piece m c (sent c t) (shareT t) -∗ Land (dst c t) t
      -∗ ((Owes c (owed c (todo (j + 1))) ∗ Busy c (.snd t)) -∗ Runs c (k ⟨⟩) Q)
      -∗ Runs c (.op (.enqueueDma (gSl 64 o h) (.remote (Dev.tc n : Thread nD τ) (gSl 64 o h') (.dma sS) hsc) (.dma sR) hsrc hdst hsem) k) Q) := by
  subst hn hS hR
  rw [hj]
  unfold Out Owes Idle Busy Land Piece Rows
  iintro #HR ⟨%W, HO⟩ ⟨⟨Hat, HtS⟩, HtR⟩ HP ⟨%fd, HL⟩ Hk
  ihave H1 := (rec_cell m c (.snd t)) $$ HR
  icases H1 with ⟨%κ₁, #HI₁, #Hr₁⟩
  ihave H2 := (rec_cell m (dst c t) (.rcv t)) $$ HR
  icases H2 with ⟨%κ₂, #HI₂, #Hr₂⟩
  iapply (Rounds.wp_send_pointsTo 𝒱₀ ER (Rd m) (c : Thread nD τ) none (c' := (Dev.tc (dst c t) : Thread nD τ)) (κ₁ := κ₁) (κ₂ := κ₂)
    (r₁ := 0) (r₂ := 0) (d₁ := 0) (d₂ := 0) (fd := fd) (fs := XG m) (q := shareT t) (src := gSl 64 o h) (dst := gSl 64 o h')
    (by rw [duties_cell]; exact Finset.mem_singleton_self _) (by rw [duties_cell]; exact Finset.mem_singleton_self _)
    () () (credit (.rcv t)) (View.amount_dma _ _) (amount_cell m c (.snd t) 0) (amount_cell m (dst c t) (.rcv t) 0) (owed c (todo (j + 1))) rfl (W := W)
    (by
      rw [payload_cell, gSl_set ho h]; exact BI.Entails.refl _)
    (by
      rw [payload_cell, gSl_set ho h']; show _ ⊢ Piece m (dst c t) (got (dst c t) t) fullShare
      unfold Piece Rows; rw [got_dst]
      refine Entails.of_eq (pointsTo_congr fun i hi => ?_)
      rw [show (gSl 64 o h).view.read (Elt F) (XG m) = XB m 64 (64 * sent c t) from read_XG m ho h]
      exact write_XG m ho h' fd i hi)) $$ [HO HtS HtR HP HL]
  · rw [gSl_set ho h]
    isplitr; · iexact HI₁
    isplitr; · iexact HI₂
    isplitl [HP]; · iexact HP
    isplitl [HL]; · rw [got_dst]; iexact HL
    isplitl [HO]; · iexact HO
    isplitl [HtS]; · iexact HtS
    isplitr; · iexact Hr₁
    isplitl [HtR]; · iexact HtR
    iexact Hr₂
  iintro ⟨Hc, HO⟩
  iapply Hk
  isplitl [HO]; · iexists W; iexact HO
  isplitl [Hat]; · iexact Hat
  iexact Hc

/-- A wait for the copy on its way to the cell of role `r`: what the cell stands for comes, and the cell is done with. -/
theorem step_wait (r : Role) (l : List (Fin 14)) {s : DmaSem sig} (hs : s = semOf r) {sp sp' : Space} {sh : Shape} {e : EltTy}
    {src : Memref sig .tc sp sh e} {dst : Memref sig .tc sp' sh e} {hsrc : src.view.WordExact} {hdst : dst.view.WordExact} (hN : dst.view.dmaCredit = credit r)
    (hl : ∀ t ∈ l, lvR r < lvT t) {k : PUnit → Prog (TpuEff nD τ sig (Elt F) Λ₀ .tc) α} :
    Rec m ⊢ iprop(Owes c (owed c l) -∗ Busy c r
      -∗ ((Owes c (owed c l) ∗ Over c r ∗ pay m c r) -∗ Runs c (k ⟨⟩) Q)
      -∗ Runs c (.op (.waitDma2 s src dst hsrc hdst) k) Q) := by
  subst hs
  unfold Owes Busy Over
  iintro #HR ⟨%W, HO⟩ ⟨Hat, Hc⟩ Hk
  ihave H1 := (rec_cell m c r) $$ HR
  icases H1 with ⟨%κ, #HI, #Hr⟩
  iapply (Rounds.wp_wait_rest_token 𝒱₀ ER (Rd m) (c : Thread nD τ) none (κ := κ)
      (wpE_waitDma2_eq 𝒱₀ (c : Thread nD τ) none Set.univ) (Set.mem_univ _) () (O := owed c l) (W := W) (R := 0) (m := 0) (T := ∅)
      (by rw [Nat.zero_add]; exact hN.trans (expect_cell m c r).symm)) $$ [Hc HO Hat]
  · isplitr; · iexact HI
    isplitl [Hc]; · rw [hN]; iexact Hc
    isplitl [HO]; · iexact HO
    isplitr
    · iapply (mayWait c (.dma (semOf r)) l (by rw [lvS_cell]; exact hl))
      iapply (rec_lev m); iexact HR
    iexact Hat
  iintro ⟨HO, Hat, -, Hpay⟩
  ihave Hp := (Entails.of_eq (rest_cell m c r)) $$ Hpay
  imod (Rounds.cell_close ER (Rd m) (Set.mem_univ κ) (fun h => h) (R := 0 + 1) (duties_later m (cell c r))) $$ [Hat] with Hz
  · isplitr; · iexact HI
    iexact Hat
  iapply Hk
  isplitl [HO]; · iexists _; iexact HO
  isplitl [Hz]; · iexact Hz
  iexact Hp

/-- The wait for a piece from a neighbour. -/
theorem step_recv (t : Fin 14) (j : ℕ) (hl : ∀ t' ∈ todo j, lvT t < lvT t') {o o' : Fin 2 → ℕ} {h h'} {s : DmaSem sig} (hs : s = semOf (.rcv t))
    {hsrc : (gSl 64 o' h').view.WordExact} {hdst : (gSl 64 o h).view.WordExact} {k : PUnit → Prog (TpuEff nD τ sig (Elt F) Λ₀ .tc) α} :
    Rec m ⊢ iprop(Owes c (owed c (todo j)) -∗ Busy c (.rcv t)
      -∗ ((Owes c (owed c (todo j)) ∗ Over c (.rcv t) ∗ Piece m c (got c t) fullShare) -∗ Runs c (k ⟨⟩) Q)
      -∗ Runs c (.op (.waitDma2 s (gSl 64 o' h') (gSl 64 o h) hsrc hdst) k) Q) :=
  step_wait m (.rcv t) (todo j) (src := gSl 64 o' h') (dst := gSl 64 o h) hs rfl hl
/-- The wait for a piece to have left. -/
theorem step_sent (t : Fin 14) {o o' : Fin 2 → ℕ} {h h'} {s : DmaSem sig} (hs : s = semOf (.snd t))
    {hsrc : (gSl 64 o' h').view.WordExact} {hdst : (gSl 64 o h).view.WordExact} {k : PUnit → Prog (TpuEff nD τ sig (Elt F) Λ₀ .tc) α} :
    Rec m ⊢ iprop(Owes c (owed c (todo 14)) -∗ Busy c (.snd t)
      -∗ ((Owes c (owed c (todo 14)) ∗ Over c (.snd t) ∗ Piece m c (sent c t) (shareT t)) -∗ Runs c (k ⟨⟩) Q)
      -∗ Runs c (.op (.waitDma2 s (gSl 64 o' h') (gSl 64 o h) hsrc hdst) k) Q) :=
  step_wait m (.snd t) (todo 14) (src := gSl 64 o' h') (dst := gSl 64 o h) hs rfl (fun t' h => absurd (show t' ∈ ([] : List (Fin 14)) from h) List.not_mem_nil)
/-- The wait for a product to have been copied out. -/
theorem step_done (t : Fin 14) {o o' : Fin 2 → ℕ} {h h'} {s : DmaSem sig} (hs : s = semOf (.out t))
    {hsrc : (oSl 64 o' h').view.WordExact} {hdst : (vSl 64 o h).view.WordExact} {k : PUnit → Prog (TpuEff nD τ sig (Elt F) Λ₀ .tc) α} :
    Rec m ⊢ iprop(Owes c (owed c (todo 14)) -∗ Busy c (.out t)
      -∗ ((Owes c (owed c (todo 14)) ∗ Over c (.out t) ∗ Done m c (64 * got c t) 64) -∗ Runs c (k ⟨⟩) Q)
      -∗ Runs c (.op (.waitDma2 s (oSl 64 o' h') (vSl 64 o h) hsrc hdst) k) Q) :=
  step_wait m (.out t) (todo 14) (src := oSl 64 o' h') (dst := vSl 64 o h) hs rfl (fun t' h => absurd (show t' ∈ ([] : List (Fin 14)) from h) List.not_mem_nil)
/-- The wait for the product of the own rows to have been copied out. -/
theorem step_done_own {o o' : Fin 2 → ℕ} {h h'} {s : DmaSem sig} (hs : s = semOf .outOwn)
    {hsrc : (oSl 128 o' h').view.WordExact} {hdst : (vSl 128 o h).view.WordExact} {k : PUnit → Prog (TpuEff nD τ sig (Elt F) Λ₀ .tc) α} :
    Rec m ⊢ iprop(Owes c (owed c (todo 14)) -∗ Busy c .outOwn
      -∗ ((Owes c (owed c (todo 14)) ∗ Over c .outOwn ∗ Done m c (128 * c.val) 128) -∗ Runs c (k ⟨⟩) Q)
      -∗ Runs c (.op (.waitDma2 s (oSl 128 o' h') (vSl 128 o h) hsrc hdst) k) Q) :=
  step_wait m .outOwn (todo 14) (src := oSl 128 o' h') (dst := vSl 128 o h) hs rfl (fun t' h => absurd (show t' ∈ ([] : List (Fin 14)) from h) List.not_mem_nil)
/-- The wait for the first argument. -/
theorem step_gotX {o : Fin 2 → ℕ} {h} {s : DmaSem sig} (hs : s = semOf .argX)
    {hsrc : xM.view.WordExact} {hdst : (gSl 128 o h).view.WordExact} {k : PUnit → Prog (TpuEff nD τ sig (Elt F) Λ₀ .tc) α} :
    Rec m ⊢ iprop(Owes c (owed c (todo 0)) -∗ Busy c .argX
      -∗ ((Owes c (owed c (todo 0)) ∗ Over c .argX ∗ Rows m c (128 * c.val) 128 fullShare ∗ Arg0 m c) -∗ Runs c (k ⟨⟩) Q)
      -∗ Runs c (.op (.waitDma2 s xM (gSl 128 o h) hsrc hdst) k) Q) :=
  step_wait m .argX (todo 0) (src := xM) (dst := gSl 128 o h) hs rfl (by decide +kernel)
/-- The wait for the second argument. -/
theorem step_gotW {s : DmaSem sig} (hs : s = semOf .argW)
    {hsrc : aM.view.WordExact} {hdst : wM.view.WordExact} {k : PUnit → Prog (TpuEff nD τ sig (Elt F) Λ₀ .tc) α} :
    Rec m ⊢ iprop(Owes c (owed c (todo 5)) -∗ Busy c .argW
      -∗ ((Owes c (owed c (todo 5)) ∗ Over c .argW ∗ WBuf m c ∗ Arg1 m c) -∗ Runs c (k ⟨⟩) Q)
      -∗ Runs c (.op (.waitDma2 s aM wM hsrc hdst) k) Q) :=
  step_wait m .argW (todo 5) (src := aM) (dst := wM) hs rfl (by decide +kernel)

/-- The copy in of the first argument, to the own rows. -/
theorem step_argX {o : Fin 2 → ℕ} {h} {s : DmaSem sig} (ho : o = ![128 * c.val, 0]) (hs : s = semOf .argX)
    {hsrc : xM.view.WordExact} {hdst : (gSl 128 o h).view.WordExact}
    {hsem : DmaTarget.Typed (nD := nD) (τ := τ) (sig := sig) .hbm (.dma s) (.here (p := .tc) (gSl 128 o h))}
    {k : PUnit → Prog (TpuEff nD τ sig (Elt F) Λ₀ .tc) α} (fd : Buf (Elt F) ((c : Thread nD τ).loc cc0_scratch0)) :
    Rec m ⊢ iprop(Idle c .argX -∗ Arg0 m c -∗ (((c : Thread nD τ).loc cc0_scratch0) ↦[rows 1024 (128 * c.val) 128]{fullShare} fd)
      -∗ (Busy c .argX -∗ Runs c (k ⟨⟩) Q)
      -∗ Runs c (.op (.enqueueDma xM (.here (gSl 128 o h)) (.dma s) hsrc hdst hsem) k) Q) := by
  subst hs
  unfold Idle Busy Arg0
  iintro #HR ⟨Hat, Ht⟩ Hx Hd Hk
  ihave H1 := (rec_cell m c .argX) $$ HR
  icases H1 with ⟨%κ, #HI, #Hr⟩
  iapply (Rounds.wp_copy_pointsTo 𝒱₀ ER (Rd m) (c : Thread nD τ) none (κ := κ) (r := 0) (d := 0) (src := xM) (dst := gSl 128 o h)
    (q := fullShare) (fs := m ((c : Thread nD τ).loc main_arg0)) (fd := fd)
    (by rw [duties_cell]; exact Finset.mem_singleton_self _) () (credit .argX) (View.amount_dma _ _) (amount_cell m c .argX 0)
    (by
      rw [payload_cell, gSl_set ho h, View.set_whole]
      show _ ⊢ iprop(Rows m c (128 * c.val) 128 fullShare ∗ Arg0 m c)
      unfold Rows Arg0
      refine sep_mono_left (Entails.of_eq (pointsTo_congr fun i hi => ?_))
      rw [show xM.view.read (Elt F) (m ((c : Thread nD τ).loc main_arg0)) = XB m 128 (128 * c.val) from (View.read_whole _ _).trans (XB_own m c).symm]
      exact write_XG m ho h fd i hi)) $$ [Hx Hd Ht]
  · rw [gSl_set ho h, View.set_whole]
    isplitr; · iexact HI
    isplitl [Hx]; · iexact Hx
    isplitl [Hd]; · iexact Hd
    isplitl [Ht]; · iexact Ht
    iexact Hr
  iintro Hc
  iapply Hk
  isplitl [Hat]; · iexact Hat
  iexact Hc

/-- The copy in of the second argument. -/
theorem step_argW {s : DmaSem sig} (hs : s = semOf .argW)
    {hsrc : aM.view.WordExact} {hdst : wM.view.WordExact}
    {hsem : DmaTarget.Typed (nD := nD) (τ := τ) (sig := sig) .hbm (.dma s) (.here (p := .tc) wM)}
    {k : PUnit → Prog (TpuEff nD τ sig (Elt F) Λ₀ .tc) α} (fd : Buf (Elt F) ((c : Thread nD τ).loc cc0_scratch1)) :
    Rec m ⊢ iprop(Idle c .argW -∗ Arg1 m c -∗ (((c : Thread nD τ).loc cc0_scratch1) ↦{fullShare} fd)
      -∗ (Busy c .argW -∗ Runs c (k ⟨⟩) Q)
      -∗ Runs c (.op (.enqueueDma aM (.here wM) (.dma s) hsrc hdst hsem) k) Q) := by
  subst hs
  unfold Idle Busy Arg1
  iintro #HR ⟨Hat, Ht⟩ Hx Hd Hk
  ihave H1 := (rec_cell m c .argW) $$ HR
  icases H1 with ⟨%κ, #HI, #Hr⟩
  iapply (Rounds.wp_copy_pointsTo 𝒱₀ ER (Rd m) (c : Thread nD τ) none (κ := κ) (r := 0) (d := 0) (src := aM) (dst := wM)
    (q := fullShare) (fs := m ((c : Thread nD τ).loc main_arg1)) (fd := fd)
    (by rw [duties_cell]; exact Finset.mem_singleton_self _) () (credit .argW) (View.amount_dma _ _) (amount_cell m c .argW 0)
    (by
      rw [payload_cell, View.set_whole, View.set_whole]
      show _ ⊢ iprop(WBuf m c ∗ Arg1 m c)
      unfold WBuf Arg1 WV
      refine sep_mono_left (Entails.of_eq (pointsTo_congr fun i hi => ?_))
      rw [View.read_whole]
      exact congrFun (View.write_whole_univ _ _ _) i)) $$ [Hx Hd Ht]
  · rw [View.set_whole, View.set_whole]
    isplitr; · iexact HI
    isplitl [Hx]; · iexact Hx
    isplitl [Hd]; · iexact Hd
    isplitl [Ht]; · iexact Ht
    iexact Hr
  iintro Hc
  iapply Hk
  isplitl [Hat]; · iexact Hat
  iexact Hc

/-- The product of a block of rows: the rows and the second argument loaded, the product stored and its copy out started. -/
theorem step_rows (r : Role) {n lo : ℕ} {oL oS oF : Fin 2 → ℕ} {hL hS hF hF'} {s : DmaSem sig} {q : PosShare TreeShare}
    (f : ((⟨2, ![n, 1024]⟩ : Shape).Idx → Elt F .f32) → (S1024x128.Idx → Elt F .f32) → (⟨2, ![n, 128]⟩ : Shape).Idx → Elt F .f32)
    (hs : s = semOf r) (hoL : oL = ![lo, 0]) (hoS : oS = ![lo, 0]) (hoF : oF = ![lo, 0])
    (hr : pay m c r = Done m c lo n) (hcr : (vSl n oF hF).view.dmaCredit = credit r)
    (hf : ∀ (x : (⟨2, ![n, 128]⟩ : Shape).Idx) (i : S1024x128.Idx), (i 0).val = lo + (x 0).val → i 1 = x 1 → OUT m c i = f (XB m n lo) (WV m c) x)
    {hl₁ : gM.view.LoadsAt (Rect.unit (s := S1024x1024) oL ![n, 1024] hL).toLoadRect} {hz hl₂}
    {hl₃ : oM.view.LoadsAt (Rect.unit (s := S1024x128) oS ![n, 128] hS).toLoadRect}
    {hx : (oM.access (Rect.unit (s := S1024x128) oS ![n, 128] hS)).Stores Finset.univ} {hm}
    {hsrc : (oSl n oF hF').view.WordExact} {hdst : (vSl n oF hF).view.WordExact}
    {hsem : DmaTarget.Typed (nD := nD) (τ := τ) (sig := sig) .vmem (.dma s) (.here (p := .tc) (vSl n oF hF))}
    {k : PUnit → Prog (TpuEff nD τ sig (Elt F) Λ₀ .tc) α} :
    Rec m ⊢ iprop(Rows m c lo n q -∗ WBuf m c -∗ Blank c lo n -∗ Idle c r
      -∗ ((Rows m c lo n q ∗ WBuf m c ∗ Busy c r) -∗ Runs c (k ⟨⟩) Q)
      -∗ Runs c (.op (.load gM (Rect.unit (s := S1024x1024) oL ![n, 1024] hL).toLoadRect hl₁) fun v =>
          .op (.load wM (Rect.unit (s := S1024x128) ![0, 0] S1024x128.size hz).toLoadRect hl₂) fun v' =>
          .op (.load oM (Rect.unit (s := S1024x128) oS ![n, 128] hS).toLoadRect hl₃) fun _ =>
          .op (.store oM (Rect.unit (s := S1024x128) oS ![n, 128] hS) (f v v') Finset.univ hx hm) fun _ =>
          .op (.enqueueDma (oSl n oF hF') (.here (vSl n oF hF)) (.dma s) hsrc hdst hsem) k) Q) := by
  subst hs
  unfold Idle Busy Rows WBuf Blank
  iintro #HR HG HW ⟨⟨%fo, Ho⟩, ⟨%fv, Hv⟩⟩ ⟨Hat, Ht⟩ Hk
  ihave H1 := (rec_cell m c r) $$ HR
  icases H1 with ⟨%κ, #HI, #Hr⟩
  have hLs : (gM.access (Rect.unit (s := S1024x1024) oL ![n, 1024] hL)).set = rows 1024 lo n := (View.set_slice_whole _ _).trans (rect_rows hoL hL)
  have hSs : (oM.access (Rect.unit (s := S1024x128) oS ![n, 128] hS)).set = rows 128 lo n := (View.set_slice_whole _ _).trans (rect_rows hoS hS)
  iapply (wp_load_rect 𝒱₀ (c : Thread nD τ) none Set.univ (m := gM) hLs.subset) $$ HG
  iintro HG
  rw [show (gM.access (Rect.unit (s := S1024x1024) oL ![n, 1024] hL)).read (Elt F) (XG m) = XB m n lo from read_XG m hoL hL]
  iapply (wp_load 𝒱₀ (c : Thread nD τ) none Set.univ (m := wM) (Finset.subset_univ _)) $$ HW
  iintro HW
  rw [show wM.view.readAt (Elt F) (Rect.unit (s := S1024x128) ![0, 0] S1024x128.size hz).toLoadRect (WV m c) = WV m c from
    Memref.readAt_unit_zero (Elt F) _ (by decide) _ _]
  iapply (wp_load_rect 𝒱₀ (c : Thread nD τ) none Set.univ (m := oM) hSs.subset) $$ Ho
  iintro Ho
  iapply (wp_store 𝒱₀ (c : Thread nD τ) none Set.univ (m := oM) hSs.subset) $$ Ho
  iintro Ho
  ihave Ho := (Entails.of_eq (pointsTo_congr fun i hi => write_out hoS hS fo (OUT m c) (f (XB m n lo) (WV m c)) hf i hi)) $$ Ho
  iapply (Rounds.wp_copy_pointsTo 𝒱₀ ER (Rd m) (c : Thread nD τ) none (κ := κ) (r := 0) (d := 0) (src := oSl n oF hF') (dst := vSl n oF hF)
    (q := fullShare) (fs := OUT m c) (fd := fv)
    (by rw [duties_cell]; exact Finset.mem_singleton_self _) () (credit r) ((View.amount_dma _ _).trans hcr) (amount_cell m c r 0)
    (by
      rw [payload_cell, oSl_set hoF hF', vSl_set hoF hF, hr]
      unfold Done
      refine (sep_mono_left (Entails.of_eq (pointsTo_congr fun i hi => ?_))).trans sep_comm
      exact copy_out hoF hF fv (OUT m c) i hi)) $$ [Ho Hv Ht]
  · rw [oSl_set hoF hF', vSl_set hoF hF]
    isplitr; · iexact HI
    isplitl [Ho]; · iexact Ho
    isplitl [Hv]; · iexact Hv
    isplitl [Ht]; · iexact Ht
    iexact Hr
  iintro Hc
  iapply Hk
  isplitl [HG]; · iexact HG
  isplitl [HW]; · iexact HW
  isplitl [Hat]; · iexact Hat
  iexact Hc

/-- No piece received is one of the own rows. -/
theorem got_ne (t : Fin 14) : got c t / 2 ≠ c.val := by
  rcases own_or_got c ⟨got c t, got_lt c t⟩ with h | h
  · exact absurd rfl (h.2 t)
  · exact h.1

/-- The product of the piece received by transfer `t`. -/
theorem step_piece (t : Fin 14) {oL oS oF : Fin 2 → ℕ} {hL hS hF hF'} {s : DmaSem sig} {q : PosShare TreeShare}
    {f : (S64x1024.Idx → Elt F .f32) → (S1024x128.Idx → Elt F .f32) → S64x128.Idx → Elt F .f32}
    (hs : s = semOf (.out t)) (hoL : oL = ![64 * got c t, 0]) (hoS : oS = ![64 * got c t, 0]) (hoF : oF = ![64 * got c t, 0])
    (hf : f = k0_pay2)
    {hl₁ : gM.view.LoadsAt (Rect.unit (s := S1024x1024) oL ![64, 1024] hL).toLoadRect} {hz hl₂}
    {hl₃ : oM.view.LoadsAt (Rect.unit (s := S1024x128) oS ![64, 128] hS).toLoadRect}
    {hx : (oM.access (Rect.unit (s := S1024x128) oS ![64, 128] hS)).Stores Finset.univ} {hm}
    {hsrc : (oSl 64 oF hF').view.WordExact} {hdst : (vSl 64 oF hF).view.WordExact}
    {hsem : DmaTarget.Typed (nD := nD) (τ := τ) (sig := sig) .vmem (.dma s) (.here (p := .tc) (vSl 64 oF hF))}
    {k : PUnit → Prog (TpuEff nD τ sig (Elt F) Λ₀ .tc) α} :
    Rec m ⊢ iprop(Piece m c (got c t) q -∗ WBuf m c -∗ Room c t
      -∗ ((Piece m c (got c t) q ∗ WBuf m c ∗ Busy c (.out t)) -∗ Runs c (k ⟨⟩) Q)
      -∗ Runs c (.op (.load gM (Rect.unit (s := S1024x1024) oL ![64, 1024] hL).toLoadRect hl₁) fun v =>
          .op (.load wM (Rect.unit (s := S1024x128) ![0, 0] S1024x128.size hz).toLoadRect hl₂) fun v' =>
          .op (.load oM (Rect.unit (s := S1024x128) oS ![64, 128] hS).toLoadRect hl₃) fun _ =>
          .op (.store oM (Rect.unit (s := S1024x128) oS ![64, 128] hS) (f v v') Finset.univ hx hm) fun _ =>
          .op (.enqueueDma (oSl 64 oF hF') (.here (vSl 64 oF hF)) (.dma s) hsrc hdst hsem) k) Q) := by
  subst hf
  unfold Room Piece
  iintro HR HP HW ⟨HB, HI⟩ Hk
  iapply (step_rows m (.out t) (n := 64) (lo := 64 * got c t) (q := q) k0_pay2 hs hoL hoS hoF rfl rfl
    (fun x i h0 h1 => OUT_piece m c (got c t) (got_ne t) x i h0 h1)) $$ HR HP HW HB HI
  iexact Hk

/-- The product of the own rows. -/
theorem step_own {oL oS oF : Fin 2 → ℕ} {hL hS hF hF'} {s : DmaSem sig} {q : PosShare TreeShare}
    (hs : s = semOf .outOwn) (hoL : oL = ![128 * c.val, 0]) (hoS : oS = ![128 * c.val, 0]) (hoF : oF = ![128 * c.val, 0])
    {hl₁ : gM.view.LoadsAt (Rect.unit (s := S1024x1024) oL ![128, 1024] hL).toLoadRect} {hz hl₂}
    {hl₃ : oM.view.LoadsAt (Rect.unit (s := S1024x128) oS ![128, 128] hS).toLoadRect}
    {hx : (oM.access (Rect.unit (s := S1024x128) oS ![128, 128] hS)).Stores Finset.univ} {hm}
    {hsrc : (oSl 128 oF hF').view.WordExact} {hdst : (vSl 128 oF hF).view.WordExact}
    {hsem : DmaTarget.Typed (nD := nD) (τ := τ) (sig := sig) .vmem (.dma s) (.here (p := .tc) (vSl 128 oF hF))}
    {k : PUnit → Prog (TpuEff nD τ sig (Elt F) Λ₀ .tc) α} :
    Rec m ⊢ iprop(Rows m c (128 * c.val) 128 q -∗ WBuf m c -∗ Blank c (128 * c.val) 128 -∗ Idle c .outOwn
      -∗ ((Rows m c (128 * c.val) 128 q ∗ WBuf m c ∗ Busy c .outOwn) -∗ Runs c (k ⟨⟩) Q)
      -∗ Runs c (.op (.load gM (Rect.unit (s := S1024x1024) oL ![128, 1024] hL).toLoadRect hl₁) fun v =>
          .op (.load wM (Rect.unit (s := S1024x128) ![0, 0] S1024x128.size hz).toLoadRect hl₂) fun v' =>
          .op (.load oM (Rect.unit (s := S1024x128) oS ![128, 128] hS).toLoadRect hl₃) fun _ =>
          .op (.store oM (Rect.unit (s := S1024x128) oS ![128, 128] hS) (k0_pay1 v v') Finset.univ hx hm) fun _ =>
          .op (.enqueueDma (oSl 128 oF hF') (.here (vSl 128 oF hF)) (.dma s) hsrc hdst hsem) k) Q) :=
  step_rows m .outOwn (n := 128) (lo := 128 * c.val) (q := q) k0_pay1 hs hoL hoS hoF rfl rfl (fun x i h0 h1 => OUT_own m c x i h0 h1)

/-- The signal to a neighbour: it is given the rows it is to fill. -/
theorem step_signal (d : Fin 3) {n n' : Dev nD} (hn : n = n') (O : CellTallies nD τ sig Unit) (P : sProp (MT nD τ sig Unit (Elt F) ℕ UU ℕ)) (hP : P = barPay n' d)
    {k : PUnit → Prog (TpuEff nD τ sig (Elt F) Λ₀ .tc) α} :
    Rec m ⊢ iprop(Owes c (O + tallyAt (bar n') () 1) -∗ dutyTok ER (bar n') 0 d -∗ P
      -∗ (Owes c O -∗ Runs c (k ⟨⟩) Q)
      -∗ Runs c (.op (.semSignal (Dev.tc n : Thread nD τ) barrier0 (1#32 : BitVec 32).toInt) k) Q) := by
  subst hn hP
  unfold Owes
  iintro #HR ⟨%W, HO⟩ Ht HP Hk
  ihave H1 := (rec_bar m n) $$ HR
  icases H1 with ⟨%κ, #HI, #Hr⟩
  iapply (Rounds.wp_signal 𝒱₀ ER (Rd m) (c : Thread nD τ) none (dst := (n : Thread nD τ)) (κ := κ) (r := 0) (d := d) (k' := 1)
    (by rw [duties_bar]; exact Finset.mem_univ _) (amount_bar m n d) () (O₀ := O + tallyAt (bar n) () 1) O rfl (W := W)) $$ [HO Ht HP]
  · rw [payload_bar]
    isplitr; · iexact HI
    isplitl [HO]; · iexact HO
    isplitl [Ht]; · iexact Ht
    isplitl [HP]; · iexact HP
    iexact Hr
  iintro HO
  iapply Hk
  iexists W; iexact HO

/-- The wait on the barrier: the rows of the neighbours this device is to fill come. -/
theorem step_barrier {k : PUnit → Prog (TpuEff nD τ sig (Elt F) Λ₀ .tc) α} :
    Rec m ⊢ iprop(Owes c (owed c (todo 0)) -∗ atPos ER (bar c) 0 ∅ 0 -∗ cred (tallyAt (bar c) () 3)
      -∗ ((Owes c (owed c (todo 0)) ∗ semVal (bar c) 0 ∗ landF (rgt c) ∗ landB (lft c) ∗ landE (prt c)) -∗ Runs c (k ⟨⟩) Q)
      -∗ Runs c (.op (.semWait barrier0 (3#32 : BitVec 32).toInt) k) Q) := by
  unfold Owes
  iintro #HR ⟨%W, HO⟩ Hat Hc Hk
  ihave H1 := (rec_bar m c) $$ HR
  icases H1 with ⟨%κ, #HI, #Hr⟩
  iapply (Rounds.wp_wait_rest_token 𝒱₀ ER (Rd m) (c : Thread nD τ) none (κ := κ)
      (wpE_semWait_eq 𝒱₀ (c : Thread nD τ) none Set.univ) (Set.mem_univ _) () (O := owed c (todo 0)) (W := W) (R := 0) (m := 0) (T := ∅)
      (by rw [Nat.zero_add]; exact (expect_bar m c).symm)) $$ [Hc HO Hat]
  · isplitr; · iexact HI
    isplitl [Hc]; · iexact Hc
    isplitl [HO]; · iexact HO
    isplitr
    · iapply (mayWait c (.reg barrier0) (todo 0) (by decide +kernel))
      iapply (rec_lev m); iexact HR
    iexact Hat
  iintro ⟨HO, Hat, -, Hpay⟩
  ihave Hp := (Entails.of_eq (rest_bar m c)) $$ Hpay
  imod (Rounds.cell_close ER (Rd m) (Set.mem_univ κ) (fun h => h) (R := 0 + 1) (duties_later m (bar c))) $$ [Hat] with Hz
  · isplitr; · iexact HI
    iexact Hat
  iapply Hk
  isplitl [HO]; · iexists _; iexact HO
  isplitl [Hz]; · iexact Hz
  iexact Hp

end Steps

end Cert.KProof

end
-- ==== Proof.Pieces.lean ====
/-
Shares and pieces: a piece in four quarter shares, the own rows in two pieces, an array of 1024 rows in the own rows and
the fourteen pieces received.
-/
module

public import proofs.«01_k».proof.Proof.Steps

@[expose] public section

noncomputable section

namespace Cert.KProof

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

omit [FloatOps F] in
/-- A family of pairs is a pair of families. -/
theorem bigSep_pair {I : Type} (s : Finset I) (Φ Ψ : I → sProp (MT nD τ sig Unit (Elt F) ℕ UU ℕ)) :
    bigSep s (fun i => iprop(Φ i ∗ Ψ i)) ⊣⊢ iprop(bigSep s Φ ∗ bigSep s Ψ) :=
  ⟨Entails.of_eq (bigSep_sep s Φ Ψ), Entails.of_eq (bigSep_sep s Φ Ψ).symm⟩

/-! ## Quarter shares -/

/-- Rows at the full share are the rows at the four quarters. -/
theorem quarters (lo n : ℕ) : (Rows (F := F) m c lo n fullShare : sProp 𝕄)
    ⊣⊢ iprop(Rows m c lo n (shareT 0) ∗ Rows m c lo n (shareT 5) ∗ Rows m c lo n (shareT 10) ∗ Rows m c lo n shareK) := by
  unfold Rows
  rw [show shareT 0 = fullShare.left.left from rfl, show shareT 5 = fullShare.left.right from rfl, show shareT 10 = fullShare.right.left from rfl]
  constructor
  · iintro H
    ihave H := (pointsTo_share (PosShare.mem_left_op_right fullShare)).1 $$ H
    icases H with ⟨Hl, Hr⟩
    ihave Hl := (pointsTo_share (PosShare.mem_left_op_right fullShare.left)).1 $$ Hl
    ihave Hr := (pointsTo_share (PosShare.mem_left_op_right fullShare.right)).1 $$ Hr
    icases Hl with ⟨H1, H2⟩
    icases Hr with ⟨H3, H4⟩
    isplitl [H1]; · iexact H1
    isplitl [H2]; · iexact H2
    isplitl [H3]; · iexact H3
    iexact H4
  · iintro ⟨H1, H2, H3, H4⟩
    iapply (pointsTo_share (PosShare.mem_left_op_right fullShare)).2
    isplitl [H1 H2]
    · iapply (pointsTo_share (PosShare.mem_left_op_right fullShare.left)).2
      isplitl [H1]; · iexact H1
      iexact H2
    · iapply (pointsTo_share (PosShare.mem_left_op_right fullShare.right)).2
      isplitl [H3]; · iexact H3
      iexact H4

theorem shareF {t : Fin 14} (h : t.val < 5) : shareT t = shareT 0 := if_pos h
theorem shareB {t : Fin 14} (h : ¬ t.val < 5) (h' : t.val < 10) : shareT t = shareT 5 := (if_neg h).trans (if_pos h')
theorem shareE {t : Fin 14} (h : ¬ t.val < 10) : shareT t = shareT 10 := (if_neg (by omega)).trans (if_neg h)

/-- A received piece in its shares: the one transfer `t` to the right sends on, the two other ones, the one kept. -/
theorem shares_F {t : Fin 14} (h : t.val < 5) {p : ℕ} (hs : sent c t = p) : (Piece (F := F) m c p fullShare : sProp 𝕄)
    ⊣⊢ iprop(Piece m c (sent c t) (shareT t) ∗ Piece m c p (shareT 5) ∗ Piece m c p (shareT 10) ∗ Piece m c p shareK) := by
  rw [shareF h, hs]; exact quarters m c _ _
/-- The same of a piece sent on to the left. -/
theorem shares_B {t : Fin 14} (h : ¬ t.val < 5) (h' : t.val < 10) {p : ℕ} (hs : sent c t = p) : (Piece (F := F) m c p fullShare : sProp 𝕄)
    ⊣⊢ iprop(Piece m c p (shareT 0) ∗ Piece m c (sent c t) (shareT t) ∗ Piece m c p (shareT 10) ∗ Piece m c p shareK) := by
  rw [shareB h h', hs]; exact quarters m c _ _

/-- Of two pieces one goes across and the other is kept, whichever it is. -/
theorem shares_E {t : Fin 14} (h : ¬ t.val < 10) {p p' k : ℕ} (hs : (sent c t = p ∧ k = p') ∨ (sent c t = p' ∧ k = p)) :
    (iprop(Piece (F := F) m c p (shareT 10) ∗ Piece m c p' (shareT 10)) : sProp 𝕄)
      ⊣⊢ iprop(Piece m c (sent c t) (shareT t) ∗ Piece m c k (shareT 10)) := by
  rw [shareE h]
  rcases hs with ⟨h1, h2⟩ | ⟨h1, h2⟩
  · rw [h1, h2]
  · rw [h1, h2]; exact sep_comm

/-- The own rows are two pieces. -/
theorem own_pieces (q : PosShare TreeShare) : (Rows (F := F) m c (128 * c.val) 128 q : sProp 𝕄)
    ⊣⊢ iprop(Piece m c (2 * c.val) q ∗ Piece m c (2 * c.val + 1) q) := by
  unfold Piece Rows
  rw [show 128 * c.val = 64 * (2 * c.val) by omega, show 64 * (2 * c.val + 1) = 64 * (2 * c.val) + 64 by omega,
    show (rows 1024 (64 * (2 * c.val)) 128) = rows 1024 (64 * (2 * c.val)) 64 ∪ rows 1024 (64 * (2 * c.val) + 64) 64 from rows_append (n := 64) (n' := 64)]
  exact pointsTo_union (rows_disjoint (Or.inl (le_refl _)))

/-- The own rows in the shares of the five transfers that send a piece of them, and the rest. -/
def OwnShares : sProp 𝕄 :=
  iprop(Piece m c (sent c 0) (shareT 0) ∗ Piece m c (sent c 1) (shareT 1) ∗ Piece m c (sent c 5) (shareT 5) ∗ Piece m c (sent c 6) (shareT 6)
    ∗ Piece m c (sent c 10) (shareT 10) ∗ Piece m c (kept c 0) (shareT 10) ∗ Rows m c (128 * c.val) 128 shareK)
theorem own_shares : (Rows (F := F) m c (128 * c.val) 128 fullShare : sProp 𝕄) ⊣⊢ OwnShares m c := by
  have hK := own_pieces (F := F) m c shareK
  have h2 := own_pieces (F := F) m c fullShare
  have h3 := shares_F (F := F) m c (t := 0) (by decide) (sent_0 c)
  have h4 := shares_F (F := F) m c (t := 1) (by decide) (sent_1 c)
  have hE := shares_E (F := F) m c (t := 10) (by decide) (across_0 c)
  have h6 : (Piece (F := F) m c (2 * c.val) (shareT 5) : sProp 𝕄) = Piece m c (sent c 6) (shareT 6) := by rw [sent_6, shareB (t := 6) (by decide) (by decide)]
  have h5 : (Piece (F := F) m c (2 * c.val + 1) (shareT 5) : sProp 𝕄) = Piece m c (sent c 5) (shareT 5) := by rw [sent_5]
  unfold OwnShares
  constructor
  · iintro H
    ihave H := h2.1 $$ H
    icases H with ⟨H, H'⟩
    ihave H := h3.1 $$ H
    ihave H' := h4.1 $$ H'
    icases H with ⟨H0, H6, Ha, Hk⟩
    icases H' with ⟨H1, H5, Ha', Hk'⟩
    ihave He := hE.1 $$ [Ha Ha']
    · isplitl [Ha]; · iexact Ha
      iexact Ha'
    icases He with ⟨H10, Hkept⟩
    isplitl [H0]; · iexact H0
    isplitl [H1]; · iexact H1
    isplitl [H5]; · iapply (Entails.of_eq h5); iexact H5
    isplitl [H6]; · iapply (Entails.of_eq h6); iexact H6
    isplitl [H10]; · iexact H10
    isplitl [Hkept]; · iexact Hkept
    iapply hK.2
    isplitl [Hk]; · iexact Hk
    iexact Hk'
  · iintro ⟨H0, H1, H5, H6, H10, Hkept, HK⟩
    ihave HK := hK.1 $$ HK
    icases HK with ⟨Hk, Hk'⟩
    ihave He := hE.2 $$ [H10 Hkept]
    · isplitl [H10]; · iexact H10
      iexact Hkept
    icases He with ⟨Ha, Ha'⟩
    iapply h2.2
    isplitl [H0 H6 Ha Hk]
    · iapply h3.2
      isplitl [H0]; · iexact H0
      isplitl [H6]; · iapply (Entails.of_eq h6.symm); iexact H6
      isplitl [Ha]; · iexact Ha
      iexact Hk
    · iapply h4.2
      isplitl [H1]; · iexact H1
      isplitl [H5]; · iapply (Entails.of_eq h5.symm); iexact H5
      isplitl [Ha']; · iexact Ha'
      iexact Hk'

/-! ## The whole array -/

/-- The own rows and the pieces received are all rows. -/
theorem rows_tile (w : ℕ) : rows w (128 * c.val) 128 ∪ Finset.univ.biUnion (fun t : Fin 14 => rows w (64 * got c t) 64) = Finset.univ := by
  ext i
  have hi : (i 0).val < 1024 := (i 0).isLt
  simp only [Finset.mem_union, Finset.mem_biUnion, Finset.mem_univ, true_and, iff_true, mem_rows]
  rcases own_or_got c ⟨(i 0).val / 64, by omega⟩ with ⟨h, -⟩ | ⟨-, t, h⟩
  · left; have h' : (i 0).val / 64 / 2 = c.val := h; omega
  · right; have h' : got c t = (i 0).val / 64 := h; exact ⟨t, by omega⟩
theorem rows_own_got (w : ℕ) : Disjoint (rows w (128 * c.val) 128) (Finset.univ.biUnion (fun t : Fin 14 => rows w (64 * got c t) 64)) :=
  (Finset.disjoint_biUnion_right _ _ _).mpr fun t _ => rows_disjoint (by have := got_ne (c := c) t; omega)
theorem rows_got_got (w : ℕ) : ∀ t ∈ (Finset.univ : Finset (Fin 14)), ∀ t' ∈ (Finset.univ : Finset (Fin 14)), t ≠ t' →
    Disjoint (rows w (64 * got c t) 64) (rows w (64 * got c t') 64) := fun t _ t' _ h =>
  rows_disjoint (by have h' : got c t ≠ got c t' := fun h' => h (got_injective c h'); omega)

/-- A buffer in a set of its elements and fourteen others. -/
theorem tile {ℓ : Loc nD τ sig} (R : Finset (Idx ℓ)) (K : Fin 14 → Finset (Idx ℓ)) (h : R ∪ Finset.univ.biUnion K = Finset.univ)
    (hR : Disjoint R (Finset.univ.biUnion K)) (hK : ∀ t ∈ Finset.univ, ∀ t' ∈ Finset.univ, t ≠ t' → Disjoint (K t) (K t')) (f : Buf (Elt F) ℓ) :
    ((ℓ ↦{fullShare} f) : sProp 𝕄) ⊣⊢ iprop((ℓ ↦[R]{fullShare} f) ∗ bigSep Finset.univ fun t => ℓ ↦[K t]{fullShare} f) := by
  rw [← pointsTo_biUnion Finset.univ K hK, ← h]
  exact pointsTo_union hR

/-- The gathered array, the products and the result, each in its blocks. -/
theorem tile_g (f : Buf (Elt F) ((c : Thread nD τ).loc cc0_scratch0)) : ((((c : Thread nD τ).loc cc0_scratch0) ↦{fullShare} f) : sProp 𝕄)
    ⊣⊢ iprop((((c : Thread nD τ).loc cc0_scratch0) ↦[rows 1024 (128 * c.val) 128]{fullShare} f)
      ∗ bigSep Finset.univ fun t : Fin 14 => (((c : Thread nD τ).loc cc0_scratch0) ↦[rows 1024 (64 * got c t) 64]{fullShare} f)) :=
  tile _ _ (rows_tile c 1024) (rows_own_got c 1024) (rows_got_got c 1024) f
theorem tile_o (f : Buf (Elt F) ((c : Thread nD τ).loc cc0_scratch2)) : ((((c : Thread nD τ).loc cc0_scratch2) ↦{fullShare} f) : sProp 𝕄)
    ⊣⊢ iprop((((c : Thread nD τ).loc cc0_scratch2) ↦[rows 128 (128 * c.val) 128]{fullShare} f)
      ∗ bigSep Finset.univ fun t : Fin 14 => (((c : Thread nD τ).loc cc0_scratch2) ↦[rows 128 (64 * got c t) 64]{fullShare} f)) :=
  tile _ _ (rows_tile c 128) (rows_own_got c 128) (rows_got_got c 128) f
theorem tile_v (f : Buf (Elt F) ((c : Thread nD τ).loc main_v1)) : ((((c : Thread nD τ).loc main_v1) ↦{fullShare} f) : sProp 𝕄)
    ⊣⊢ iprop((((c : Thread nD τ).loc main_v1) ↦[rows 128 (128 * c.val) 128]{fullShare} f)
      ∗ bigSep Finset.univ fun t : Fin 14 => (((c : Thread nD τ).loc main_v1) ↦[rows 128 (64 * got c t) 64]{fullShare} f)) :=
  tile _ _ (rows_tile c 128) (rows_own_got c 128) (rows_got_got c 128) f

/-- The gathered array from its blocks. -/
theorem whole_g : (iprop(Rows (F := F) m c (128 * c.val) 128 fullShare ∗ bigSep Finset.univ fun t : Fin 14 => Piece m c (got c t) fullShare) : sProp 𝕄)
    ⊢ (((c : Thread nD τ).loc cc0_scratch0) ↦{fullShare} XG m) := (tile_g c (XG m)).2
/-- The products and the result from theirs. -/
theorem whole_out : (iprop(Done (F := F) m c (128 * c.val) 128 ∗ bigSep Finset.univ fun t : Fin 14 => Done m c (64 * got c t) 64) : sProp 𝕄)
    ⊢ iprop((((c : Thread nD τ).loc cc0_scratch2) ↦{fullShare} OUT m c) ∗ (((c : Thread nD τ).loc main_v1) ↦{fullShare} OUT m c)) := by
  unfold Done
  iintro ⟨⟨Ho, Hv⟩, H⟩
  ihave H := ((bigSep_pair Finset.univ
    (fun t : Fin 14 => (((c : Thread nD τ).loc cc0_scratch2) ↦[rows 128 (64 * got c t) 64]{fullShare} OUT m c : sProp 𝕄))
    (fun t : Fin 14 => (((c : Thread nD τ).loc main_v1) ↦[rows 128 (64 * got c t) 64]{fullShare} OUT m c))).1) $$ H
  icases H with ⟨Hos, Hvs⟩
  isplitl [Ho Hos]
  · iapply (tile_o c (OUT m c)).2
    isplitl [Ho]; · iexact Ho
    iexact Hos
  · iapply (tile_v c (OUT m c)).2
    isplitl [Hv]; · iexact Hv
    iexact Hvs

end Cert.KProof

end
-- ==== Proof.Body.lean ====
/-
The kernel's body, walked once on any device: from what the launch gives a device to what it leaves.
-/
module

public import proofs.«01_k».proof.Proof.Pieces

@[expose] public section

noncomputable section

namespace Cert.KProof

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-- The tokens of the three signals, and the own barrier cell. -/
def Bars : sProp 𝕄 :=
  iprop(atPos ER (bar c) 0 ∅ 0 ∗ cred (tallyAt (bar c) () 3) ∗ dutyTok ER (bar (lft c)) 0 0 ∗ dutyTok ER (bar (rgt c)) 0 1 ∗ dutyTok ER (bar (prt c)) 0 2)

/-- What a device starts from: what it owes, its arguments, its scratch buffers and its result block in their blocks, and
    the positions and tokens of its cells. -/
def Start : sProp 𝕄 :=
  iprop(Owes c (O₀ c) ∗ Arg0 m c ∗ Arg1 m c
    ∗ (∃ f : Buf (Elt F) ((c : Thread nD τ).loc cc0_scratch1), ((c : Thread nD τ).loc cc0_scratch1) ↦{fullShare} f)
    ∗ (∃ f : Buf (Elt F) ((c : Thread nD τ).loc cc0_scratch0), ((c : Thread nD τ).loc cc0_scratch0) ↦[rows 1024 (128 * c.val) 128]{fullShare} f)
    ∗ landF c ∗ landB c ∗ landE c ∗ Bars c ∗ Idle c .argX ∗ Idle c .argW ∗ Blank c (128 * c.val) 128 ∗ Idle c .outOwn
    ∗ (bigSep Finset.univ fun t : Fin 14 => Out c t) ∗ (bigSep Finset.univ fun t : Fin 14 => Busy c (.rcv t)) ∗ bigSep Finset.univ fun t : Fin 14 => Room c t)

/-- What it ends with: nothing owed, its cells at zero, its arguments as they were, the gathered array, the products, and
    the result. -/
def End : sProp 𝕄 :=
  iprop(Owes c 0 ∗ semVal (bar c) 0 ∗ (bigSep Finset.univ fun t : Fin 14 => Over (F := F) c (.snd t)) ∗ (bigSep Finset.univ fun t : Fin 14 => Over (F := F) c (.rcv t))
    ∗ Over c .argX ∗ Over c .argW ∗ Over c .outOwn ∗ (bigSep Finset.univ fun t : Fin 14 => Over (F := F) c (.out t))
    ∗ Arg0 m c ∗ Arg1 m c ∗ WBuf m c ∗ (((c : Thread nD τ).loc cc0_scratch0) ↦{fullShare} XG m)
    ∗ (((c : Thread nD τ).loc cc0_scratch2) ↦{fullShare} OUT m c) ∗ (((c : Thread nD τ).loc main_v1) ↦{fullShare} OUT m c))

omit [FloatOps F] in
/-- A family over the fourteen transfers, written out. -/
theorem fourteen (Φ : Fin 14 → sProp (MT nD τ sig Unit (Elt F) ℕ UU ℕ)) : bigSep Finset.univ Φ
    ⊣⊢ iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) := by
  have h : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) := by
    rw [bigSep_univ_eq_bigSepL [0, 1, 2, 3, 4, 5, 6, 7, 8, 9, 10, 11, 12, 13] (by decide) (by decide)]; rfl
  exact ⟨Entails.of_eq h, Entails.of_eq h.symm⟩

omit [FloatOps F] in
theorem fourteen_join (Φ : Fin 14 → sProp (MT nD τ sig Unit (Elt F) ℕ UU ℕ)) :
    Φ 0 ⊢ iprop(Φ 1 -∗ Φ 2 -∗ Φ 3 -∗ Φ 4 -∗ Φ 5 -∗ Φ 6 -∗ Φ 7 -∗ Φ 8 -∗ Φ 9 -∗ Φ 10 -∗ Φ 11 -∗ Φ 12 -∗ Φ 13 -∗ bigSep Finset.univ Φ) := by
  iintro H0 H1 H2 H3 H4 H5 H6 H7 H8 H9 H10 H11 H12 H13
  iapply (fourteen Φ).2
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The shares of a received piece joined again. -/
theorem rejoin_F {t : Fin 14} (h : t.val < 5) {p : ℕ} (hs : sent c t = p) :
    Piece (F := F) m c (sent c t) (shareT t) ⊢ iprop(Piece m c p (shareT 5) -∗ Piece m c p (shareT 10) -∗ Piece m c p shareK -∗ Piece m c p fullShare) := by
  iintro H1 H2 H3 H4
  iapply (shares_F m c h hs).2
  isplitl [H1]; · iexact H1
  isplitl [H2]; · iexact H2
  isplitl [H3]; · iexact H3
  iexact H4
theorem rejoin_B {t : Fin 14} (h : ¬ t.val < 5) (h' : t.val < 10) {p : ℕ} (hs : sent c t = p) :
    Piece (F := F) m c p (shareT 0) ⊢ iprop(Piece m c (sent c t) (shareT t) -∗ Piece m c p (shareT 10) -∗ Piece m c p shareK -∗ Piece m c p fullShare) := by
  iintro H1 H2 H3 H4
  iapply (shares_B m c h h' hs).2
  isplitl [H1]; · iexact H1
  isplitl [H2]; · iexact H2
  isplitl [H3]; · iexact H3
  iexact H4
theorem rejoin_E {t : Fin 14} (h : ¬ t.val < 10) {p p' k : ℕ} (hs : (sent c t = p ∧ k = p') ∨ (sent c t = p' ∧ k = p)) :
    Piece (F := F) m c (sent c t) (shareT t) ⊢ iprop(Piece m c k (shareT 10) -∗ (Piece m c p (shareT 10) ∗ Piece m c p' (shareT 10))) := by
  iintro H1 H2
  iapply (shares_E m c h hs).2
  isplitl [H1]; · iexact H1
  iexact H2

/-- A program that is over has run to what holds. -/
theorem runs_ret (Kt : PUnit → sProp (MT nD τ sig Unit (Elt F) ℕ UU ℕ)) : Kt ⟨⟩ ⊢ Runs c (.ret ⟨⟩) Kt := by
  unfold Runs
  rw [wp_ret]
  iintro H
  imodintro
  iexact H

/-- The rows a neighbour gives, by the transfer that fills them. -/
theorem land_to_right : (landF (F := F) (rgt c) : sProp 𝕄) = iprop(Land (dst c 0) 0 ∗ Land (dst c 1) 1 ∗ Land (dst c 2) 2 ∗ Land (dst c 3) 3 ∗ Land (dst c 4) 4) := rfl
theorem land_to_left : (landB (F := F) (lft c) : sProp 𝕄) = iprop(Land (dst c 5) 5 ∗ Land (dst c 6) 6 ∗ Land (dst c 7) 7 ∗ Land (dst c 8) 8 ∗ Land (dst c 9) 9) := rfl
theorem land_across : (landE (F := F) (prt c) : sProp 𝕄) = iprop(Land (dst c 10) 10 ∗ Land (dst c 11) 11 ∗ Land (dst c 12) 12 ∗ Land (dst c 13) 13) := rfl

set_option maxRecDepth 65536 in
set_option maxHeartbeats 8000000 in
/-- The body, run. -/
theorem run_body (Kt : PUnit → sProp (MT nD τ sig Unit (Elt F) ℕ UU ℕ)) :
    Rec m ⊢ iprop(Start m c -∗ (End m c -∗ Kt ⟨⟩) -∗ Runs c (bodyAt0 t0_0) Kt) := by
  unfold bodyAt0
  simp only [cc0_body_eq_skeleton]
  unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel
  simp only [semSignalWord, semWaitWord, Prog.lift, Prog.bind_op, Prog.bind_ret, Prog.pure_eq_ret, Prog.bind_assoc, wp_deviceId]
  unfold Start Bars
  rw [show O₀ c = owed c (todo 0) + tallyAt (bar (prt c)) () 1 + tallyAt (bar (rgt c)) () 1 + tallyAt (bar (lft c)) () 1 from rfl]
  iintro #HR ⟨HO, HX, HA, ⟨%fw, Hw⟩, ⟨%fg, Hg⟩, HF, HB, HE, ⟨Hbat, Hbc, HtF, HtB, HtE⟩, HiX, HiW, HbO, HiO, Hout, Hrcv, Hroom⟩ HK
  ihave Hout := (fourteen _).1 $$ Hout
  icases Hout with ⟨Ho0, Ho1, Ho2, Ho3, Ho4, Ho5, Ho6, Ho7, Ho8, Ho9, Ho10, Ho11, Ho12, Ho13⟩
  ihave Hrcv := (fourteen _).1 $$ Hrcv
  icases Hrcv with ⟨Hb0, Hb1, Hb2, Hb3, Hb4, Hb5, Hb6, Hb7, Hb8, Hb9, Hb10, Hb11, Hb12, Hb13⟩
  ihave Hroom := (fourteen _).1 $$ Hroom
  icases Hroom with ⟨Hr0, Hr1, Hr2, Hr3, Hr4, Hr5, Hr6, Hr7, Hr8, Hr9, Hr10, Hr11, Hr12, Hr13⟩
  iapply (step_argX m (off1 c) rfl fg) $$ HR HiX HX Hg
  iintro HiX
  iapply (step_argW m rfl fw) $$ HR HiW HA Hw
  iintro HiW
  iapply (step_signal m 0 (dev1 c) (owed c (todo 0) + tallyAt (bar (prt c)) () 1 + tallyAt (bar (rgt c)) () 1) (landF c) (by show landF c = landF (rgt (lft c)); rw [rgt_lft])) $$ HR HO HtF HF
  iintro HO
  iapply (step_signal m 1 (dev2 c) (owed c (todo 0) + tallyAt (bar (prt c)) () 1) (landB c) (by show landB c = landB (lft (rgt c)); rw [lft_rgt])) $$ HR HO HtB HB
  iintro HO
  iapply (step_signal m 2 (dev3 c) (owed c (todo 0)) (landE c) (by show landE c = landE (prt (prt c)); rw [prt_prt])) $$ HR HO HtE HE
  iintro HO
  iapply (step_barrier m) $$ HR HO Hbat Hbc
  iintro ⟨HO, Hzb, HF, HB, HE⟩
  ihave HF := (Entails.of_eq (land_to_right c)) $$ HF
  ihave HB := (Entails.of_eq (land_to_left c)) $$ HB
  ihave HE := (Entails.of_eq (land_across c)) $$ HE
  icases HF with ⟨Hl0, Hl1, Hl2, Hl3, Hl4⟩
  icases HB with ⟨Hl5, Hl6, Hl7, Hl8, Hl9⟩
  icases HE with ⟨Hl10, Hl11, Hl12, Hl13⟩
  iapply (step_gotX m rfl) $$ HR HO HiX
  iintro ⟨HO, HzX, Hg, HX⟩
  ihave Hg := (own_shares m c).1 $$ Hg
  unfold OwnShares
  icases Hg with ⟨Hp0, Hp1, Hp5, Hp6, Hp10, Hkept0, Hown⟩
  iapply (step_send m 0 0 rfl (off2_0 c) (dev4 c) rfl rfl) $$ HR HO Ho0 Hp0 Hl0
  iintro ⟨HO, Hs0⟩
  iapply (step_send m 1 1 rfl (off3_0 c) (dev5 c) rfl rfl) $$ HR HO Ho1 Hp1 Hl1
  iintro ⟨HO, Hs1⟩
  iapply (step_send m 5 2 rfl (off4_0 c) (dev6 c) rfl rfl) $$ HR HO Ho5 Hp5 Hl5
  iintro ⟨HO, Hs5⟩
  iapply (step_send m 6 3 rfl (off5_0 c) (dev7 c) rfl rfl) $$ HR HO Ho6 Hp6 Hl6
  iintro ⟨HO, Hs6⟩
  iapply (step_send m 10 4 rfl (off6 c) (dev8 c) rfl rfl) $$ HR HO Ho10 Hp10 Hl10
  iintro ⟨HO, Hs10⟩
  iapply (step_gotW m rfl) $$ HR HO HiW
  iintro ⟨HO, HzW, HW, HA⟩
  iapply (step_own m rfl (off7 c) (off8 c) (off9 c)) $$ HR Hown HW HbO HiO
  iintro ⟨Hown, HW, HdO⟩
  iapply (step_recv m 0 5 (by decide +kernel) rfl) $$ HR HO Hb0
  iintro ⟨HO, Hz0, Hq0⟩
  ihave Hq0 := (shares_F m c (t := 2) (by decide) (sent_2 c)).1 $$ Hq0
  icases Hq0 with ⟨Hp2, Hx0, He0, Hq0⟩
  iapply (step_send m 2 5 rfl (off2_1 c) (dev9 c) rfl rfl) $$ HR HO Ho2 Hp2 Hl2
  iintro ⟨HO, Hs2⟩
  iapply (step_recv m 5 6 (by decide +kernel) rfl) $$ HR HO Hb5
  iintro ⟨HO, Hz5, Hq5⟩
  ihave Hq5 := (shares_B m c (t := 7) (by decide) (by decide) (sent_7 c)).1 $$ Hq5
  icases Hq5 with ⟨Hx5, Hp7, He5, Hq5⟩
  iapply (step_send m 7 6 rfl (off4_1 c) (dev10 c) rfl rfl) $$ HR HO Ho7 Hp7 Hl7
  iintro ⟨HO, Hs7⟩
  ihave He0 := (shares_E m c (t := 11) (by decide) (across_1 c)).1 $$ [He0 He5]
  · isplitl [He0]; · iexact He0
    iexact He5
  icases He0 with ⟨Hp11, Hkept1⟩
  iapply (step_send m 11 7 rfl (off10 c) (dev11 c) rfl rfl) $$ HR HO Ho11 Hp11 Hl11
  iintro ⟨HO, Hs11⟩
  iapply (step_piece m 0 rfl (off11_1 c) (off12_1 c) (off13_1 c) rfl) $$ HR Hq0 HW Hr0
  iintro ⟨Hq0, HW, Hd0⟩
  iapply (step_piece m 5 rfl (off14_1 c) (off15_1 c) (off16_1 c) rfl) $$ HR Hq5 HW Hr5
  iintro ⟨Hq5, HW, Hd5⟩
  iapply (step_recv m 10 8 (by decide +kernel) rfl) $$ HR HO Hb10
  iintro ⟨HO, Hz10, Hq10⟩
  iapply (step_piece m 10 rfl (off18 c) (off19 c) (off20 c) rfl) $$ HR Hq10 HW Hr10
  iintro ⟨Hq10, HW, Hd10⟩
  iapply (step_recv m 1 8 (by decide +kernel) rfl) $$ HR HO Hb1
  iintro ⟨HO, Hz1, Hq1⟩
  ihave Hq1 := (shares_F m c (t := 3) (by decide) (sent_3 c)).1 $$ Hq1
  icases Hq1 with ⟨Hp3, Hx1, He1, Hq1⟩
  iapply (step_send m 3 8 rfl (off3_1 c) (dev12 c) rfl rfl) $$ HR HO Ho3 Hp3 Hl3
  iintro ⟨HO, Hs3⟩
  iapply (step_recv m 6 9 (by decide +kernel) rfl) $$ HR HO Hb6
  iintro ⟨HO, Hz6, Hq6⟩
  ihave Hq6 := (shares_B m c (t := 8) (by decide) (by decide) (sent_8 c)).1 $$ Hq6
  icases Hq6 with ⟨Hx6, Hp8, He6, Hq6⟩
  iapply (step_send m 8 9 rfl (off5_1 c) (dev13 c) rfl rfl) $$ HR HO Ho8 Hp8 Hl8
  iintro ⟨HO, Hs8⟩
  ihave He1 := (shares_E m c (t := 12) (by decide) (across_2 c)).1 $$ [He1 He6]
  · isplitl [He1]; · iexact He1
    iexact He6
  icases He1 with ⟨Hp12, Hkept2⟩
  iapply (step_send m 12 10 rfl (off21 c) (dev14 c) rfl rfl) $$ HR HO Ho12 Hp12 Hl12
  iintro ⟨HO, Hs12⟩
  iapply (step_piece m 1 rfl (off22_1 c) (off23_1 c) (off24_1 c) rfl) $$ HR Hq1 HW Hr1
  iintro ⟨Hq1, HW, Hd1⟩
  iapply (step_piece m 6 rfl (off25_1 c) (off26_1 c) (off27_1 c) rfl) $$ HR Hq6 HW Hr6
  iintro ⟨Hq6, HW, Hd6⟩
  iapply (step_recv m 2 11 (by decide +kernel) rfl) $$ HR HO Hb2
  iintro ⟨HO, Hz2, Hq2⟩
  ihave Hq2 := (shares_F m c (t := 4) (by decide) (sent_4 c)).1 $$ Hq2
  icases Hq2 with ⟨Hp4, Hx2, He2, Hq2⟩
  iapply (step_send m 4 11 rfl (off2_2 c) (dev15 c) rfl rfl) $$ HR HO Ho4 Hp4 Hl4
  iintro ⟨HO, Hs4⟩
  iapply (step_recv m 7 12 (by decide +kernel) rfl) $$ HR HO Hb7
  iintro ⟨HO, Hz7, Hq7⟩
  ihave Hq7 := (shares_B m c (t := 9) (by decide) (by decide) (sent_9 c)).1 $$ Hq7
  icases Hq7 with ⟨Hx7, Hp9, He7, Hq7⟩
  iapply (step_send m 9 12 rfl (off4_2 c) (dev16 c) rfl rfl) $$ HR HO Ho9 Hp9 Hl9
  iintro ⟨HO, Hs9⟩
  ihave He2 := (shares_E m c (t := 13) (by decide) (across_3 c)).1 $$ [He2 He7]
  · isplitl [He2]; · iexact He2
    iexact He7
  icases He2 with ⟨Hp13, Hkept3⟩
  iapply (step_send m 13 13 rfl (off28 c) (dev17 c) rfl rfl) $$ HR HO Ho13 Hp13 Hl13
  iintro ⟨HO, Hs13⟩
  iapply (step_piece m 2 rfl (off11_2 c) (off12_2 c) (off13_2 c) rfl) $$ HR Hq2 HW Hr2
  iintro ⟨Hq2, HW, Hd2⟩
  iapply (step_piece m 7 rfl (off14_2 c) (off15_2 c) (off16_2 c) rfl) $$ HR Hq7 HW Hr7
  iintro ⟨Hq7, HW, Hd7⟩
  iapply (step_recv m 11 14 (by decide +kernel) rfl) $$ HR HO Hb11
  iintro ⟨HO, Hz11, Hq11⟩
  iapply (step_piece m 11 rfl (off30 c) (off31 c) (off32 c) rfl) $$ HR Hq11 HW Hr11
  iintro ⟨Hq11, HW, Hd11⟩
  iapply (step_recv m 3 14 (by decide +kernel) rfl) $$ HR HO Hb3
  iintro ⟨HO, Hz3, Hq3⟩
  iapply (step_recv m 8 14 (by decide +kernel) rfl) $$ HR HO Hb8
  iintro ⟨HO, Hz8, Hq8⟩
  iapply (step_piece m 3 rfl (off22_2 c) (off23_2 c) (off24_2 c) rfl) $$ HR Hq3 HW Hr3
  iintro ⟨Hq3, HW, Hd3⟩
  iapply (step_piece m 8 rfl (off25_2 c) (off26_2 c) (off27_2 c) rfl) $$ HR Hq8 HW Hr8
  iintro ⟨Hq8, HW, Hd8⟩
  iapply (step_recv m 12 14 (by decide +kernel) rfl) $$ HR HO Hb12
  iintro ⟨HO, Hz12, Hq12⟩
  iapply (step_piece m 12 rfl (off34 c) (off35 c) (off36 c) rfl) $$ HR Hq12 HW Hr12
  iintro ⟨Hq12, HW, Hd12⟩
  iapply (step_recv m 4 14 (by decide +kernel) rfl) $$ HR HO Hb4
  iintro ⟨HO, Hz4, Hq4⟩
  iapply (step_recv m 9 14 (by decide +kernel) rfl) $$ HR HO Hb9
  iintro ⟨HO, Hz9, Hq9⟩
  iapply (step_piece m 4 rfl (off11_3 c) (off12_3 c) (off13_3 c) rfl) $$ HR Hq4 HW Hr4
  iintro ⟨Hq4, HW, Hd4⟩
  iapply (step_piece m 9 rfl (off14_3 c) (off15_3 c) (off16_3 c) rfl) $$ HR Hq9 HW Hr9
  iintro ⟨Hq9, HW, Hd9⟩
  iapply (step_recv m 13 14 (by decide +kernel) rfl) $$ HR HO Hb13
  iintro ⟨HO, Hz13, Hq13⟩
  iapply (step_piece m 13 rfl (off38 c) (off39 c) (off40 c) rfl) $$ HR Hq13 HW Hr13
  iintro ⟨Hq13, HW, Hd13⟩
  iapply (step_sent m 0 rfl) $$ HR HO Hs0
  iintro ⟨HO, Hy0, Hp0⟩
  iapply (step_sent m 1 rfl) $$ HR HO Hs1
  iintro ⟨HO, Hy1, Hp1⟩
  iapply (step_sent m 5 rfl) $$ HR HO Hs5
  iintro ⟨HO, Hy5, Hp5⟩
  iapply (step_sent m 6 rfl) $$ HR HO Hs6
  iintro ⟨HO, Hy6, Hp6⟩
  iapply (step_sent m 10 rfl) $$ HR HO Hs10
  iintro ⟨HO, Hy10, Hp10⟩
  iapply (step_sent m 2 rfl) $$ HR HO Hs2
  iintro ⟨HO, Hy2, Hp2⟩
  iapply (step_sent m 7 rfl) $$ HR HO Hs7
  iintro ⟨HO, Hy7, Hp7⟩
  iapply (step_sent m 11 rfl) $$ HR HO Hs11
  iintro ⟨HO, Hy11, Hp11⟩
  iapply (step_sent m 3 rfl) $$ HR HO Hs3
  iintro ⟨HO, Hy3, Hp3⟩
  iapply (step_sent m 8 rfl) $$ HR HO Hs8
  iintro ⟨HO, Hy8, Hp8⟩
  iapply (step_sent m 12 rfl) $$ HR HO Hs12
  iintro ⟨HO, Hy12, Hp12⟩
  iapply (step_sent m 4 rfl) $$ HR HO Hs4
  iintro ⟨HO, Hy4, Hp4⟩
  iapply (step_sent m 9 rfl) $$ HR HO Hs9
  iintro ⟨HO, Hy9, Hp9⟩
  iapply (step_sent m 13 rfl) $$ HR HO Hs13
  iintro ⟨HO, Hy13, Hp13⟩
  iapply (step_done_own m rfl) $$ HR HO HdO
  iintro ⟨HO, HzO, HdO⟩
  iapply (step_done m 0 rfl) $$ HR HO Hd0
  iintro ⟨HO, Hw0, Hd0⟩
  iapply (step_done m 5 rfl) $$ HR HO Hd5
  iintro ⟨HO, Hw5, Hd5⟩
  iapply (step_done m 10 rfl) $$ HR HO Hd10
  iintro ⟨HO, Hw10, Hd10⟩
  iapply (step_done m 1 rfl) $$ HR HO Hd1
  iintro ⟨HO, Hw1, Hd1⟩
  iapply (step_done m 6 rfl) $$ HR HO Hd6
  iintro ⟨HO, Hw6, Hd6⟩
  iapply (step_done m 2 rfl) $$ HR HO Hd2
  iintro ⟨HO, Hw2, Hd2⟩
  iapply (step_done m 7 rfl) $$ HR HO Hd7
  iintro ⟨HO, Hw7, Hd7⟩
  iapply (step_done m 11 rfl) $$ HR HO Hd11
  iintro ⟨HO, Hw11, Hd11⟩
  iapply (step_done m 3 rfl) $$ HR HO Hd3
  iintro ⟨HO, Hw3, Hd3⟩
  iapply (step_done m 8 rfl) $$ HR HO Hd8
  iintro ⟨HO, Hw8, Hd8⟩
  iapply (step_done m 12 rfl) $$ HR HO Hd12
  iintro ⟨HO, Hw12, Hd12⟩
  iapply (step_done m 4 rfl) $$ HR HO Hd4
  iintro ⟨HO, Hw4, Hd4⟩
  iapply (step_done m 9 rfl) $$ HR HO Hd9
  iintro ⟨HO, Hw9, Hd9⟩
  iapply (step_done m 13 rfl) $$ HR HO Hd13
  iintro ⟨HO, Hw13, Hd13⟩
  iapply (runs_ret c Kt)
  ihave He0 := (rejoin_E m c (t := 11) (by decide) (across_1 c)) $$ Hp11 Hkept1
  icases He0 with ⟨He0, He5⟩
  ihave He1 := (rejoin_E m c (t := 12) (by decide) (across_2 c)) $$ Hp12 Hkept2
  icases He1 with ⟨He1, He6⟩
  ihave He2 := (rejoin_E m c (t := 13) (by decide) (across_3 c)) $$ Hp13 Hkept3
  icases He2 with ⟨He2, He7⟩
  ihave Hq0 := (rejoin_F m c (t := 2) (by decide) (sent_2 c)) $$ Hp2 Hx0 He0 Hq0
  ihave Hq1 := (rejoin_F m c (t := 3) (by decide) (sent_3 c)) $$ Hp3 Hx1 He1 Hq1
  ihave Hq2 := (rejoin_F m c (t := 4) (by decide) (sent_4 c)) $$ Hp4 Hx2 He2 Hq2
  ihave Hq5 := (rejoin_B m c (t := 7) (by decide) (by decide) (sent_7 c)) $$ Hx5 Hp7 He5 Hq5
  ihave Hq6 := (rejoin_B m c (t := 8) (by decide) (by decide) (sent_8 c)) $$ Hx6 Hp8 He6 Hq6
  ihave Hq7 := (rejoin_B m c (t := 9) (by decide) (by decide) (sent_9 c)) $$ Hx7 Hp9 He7 Hq7
  ihave Hown := (own_shares m c).2 $$ [Hp0 Hp1 Hp5 Hp6 Hp10 Hkept0 Hown]
  · unfold OwnShares
    isplitl [Hp0]; · iexact Hp0
    isplitl [Hp1]; · iexact Hp1
    isplitl [Hp5]; · iexact Hp5
    isplitl [Hp6]; · iexact Hp6
    isplitl [Hp10]; · iexact Hp10
    isplitl [Hkept0]; · iexact Hkept0
    iexact Hown
  ihave Hq := (fourteen_join (fun t => Piece m c (got c t) fullShare)) $$ Hq0 Hq1 Hq2 Hq3 Hq4 Hq5 Hq6 Hq7 Hq8 Hq9 Hq10 Hq11 Hq12 Hq13
  ihave Hd := (fourteen_join (fun t => Done m c (64 * got c t) 64)) $$ Hd0 Hd1 Hd2 Hd3 Hd4 Hd5 Hd6 Hd7 Hd8 Hd9 Hd10 Hd11 Hd12 Hd13
  ihave Hy := (fourteen_join (fun t => Over c (.snd t))) $$ Hy0 Hy1 Hy2 Hy3 Hy4 Hy5 Hy6 Hy7 Hy8 Hy9 Hy10 Hy11 Hy12 Hy13
  ihave Hz := (fourteen_join (fun t => Over c (.rcv t))) $$ Hz0 Hz1 Hz2 Hz3 Hz4 Hz5 Hz6 Hz7 Hz8 Hz9 Hz10 Hz11 Hz12 Hz13
  ihave Hw := (fourteen_join (fun t => Over c (.out t))) $$ Hw0 Hw1 Hw2 Hw3 Hw4 Hw5 Hw6 Hw7 Hw8 Hw9 Hw10 Hw11 Hw12 Hw13
  ihave Hg := (whole_g m c) $$ [Hown Hq]
  · isplitl [Hown]; · iexact Hown
    iexact Hq
  ihave Hov := (whole_out m c) $$ [HdO Hd]
  · isplitl [HdO]; · iexact HdO
    iexact Hd
  iapply HK
  unfold End
  isplitl [HO]; · iexact HO
  isplitl [Hzb]; · iexact Hzb
  isplitl [Hy]; · iexact Hy
  isplitl [Hz]; · iexact Hz
  isplitl [HzX]; · iexact HzX
  isplitl [HzW]; · iexact HzW
  isplitl [HzO]; · iexact HzO
  isplitl [Hw]; · iexact Hw
  isplitl [HX]; · iexact HX
  isplitl [HA]; · iexact HA
  isplitl [HW]; · iexact HW
  isplitl [Hg]; · iexact Hg
  iexact Hov

end Cert.KProof

end
-- ==== Proof.Deal.lean ====
/-
What the launch deals each device: its cells at their first round, the tokens of the duties it pays, and the credit for
what the others owe it.
-/
module

public import proofs.«01_k».proof.Proof.Body
public import Idealize.ShloMosaic.Lib.Quiescent

@[expose] public section

noncomputable section

namespace Cert.KProof

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Families over the semaphores -/

/-- The roles of one kind, as semaphores. -/
abbrev sndSem : Fin 14 ↪ Fin 45 := ⟨fun t => semOf (.snd t), by decide +kernel⟩
abbrev rcvSem : Fin 14 ↪ Fin 45 := ⟨fun t => semOf (.rcv t), by decide +kernel⟩
abbrev outSem : Fin 14 ↪ Fin 45 := ⟨fun t => semOf (.out t), by decide +kernel⟩

omit [FloatOps F] in
theorem disjoint_sep {I : Type} [DecidableEq I] {s t : Finset I} (h : Disjoint s t) (Φ : I → sProp (MT nD τ sig Unit (Elt F) ℕ UU ℕ)) :
    bigSep (s ∪ t) Φ = iprop(bigSep s Φ ∗ bigSep t Φ) := bigSep_union h

omit [FloatOps F] in
/-- Two families' order exchanged. -/
theorem exchange {I J : Type} [Fintype I] [Fintype J] (Φ : I → J → sProp (MT nD τ sig Unit (Elt F) ℕ UU ℕ)) :
    (bigSep Finset.univ fun i => bigSep Finset.univ fun j => Φ i j) = bigSep Finset.univ fun j => bigSep Finset.univ fun i => Φ i j :=
  (bigSep_univ_prod fun x : I × J => Φ x.1 x.2).symm.trans
    ((bigSep_univ_equiv (Equiv.prodComm J I) fun x : I × J => Φ x.1 x.2).trans (bigSep_univ_prod fun x : J × I => Φ x.2 x.1))

theorem sems_cover : (Finset.univ : Finset (Fin 45))
    = Finset.univ.map sndSem ∪ (Finset.univ.map rcvSem ∪ (Finset.univ.map outSem ∪ {semOf .argX, semOf .argW, semOf .outOwn})) := by decide +kernel

omit [FloatOps F] in
/-- A family over the semaphores, role by role. -/
theorem by_role (Φ : Fin 45 → sProp (MT nD τ sig Unit (Elt F) ℕ UU ℕ)) : bigSep Finset.univ Φ
    = iprop((bigSep Finset.univ fun t : Fin 14 => Φ (semOf (.snd t))) ∗ (bigSep Finset.univ fun t : Fin 14 => Φ (semOf (.rcv t)))
      ∗ (bigSep Finset.univ fun t : Fin 14 => Φ (semOf (.out t))) ∗ Φ (semOf .argX) ∗ Φ (semOf .argW) ∗ Φ (semOf .outOwn)) := by
  have h1 : Disjoint (Finset.univ.map sndSem) (Finset.univ.map rcvSem ∪ (Finset.univ.map outSem ∪ {semOf .argX, semOf .argW, semOf .outOwn})) := by decide +kernel
  have h2 : Disjoint (Finset.univ.map rcvSem) (Finset.univ.map outSem ∪ {semOf .argX, semOf .argW, semOf .outOwn}) := by decide +kernel
  have h3 : Disjoint (Finset.univ.map outSem) {semOf .argX, semOf .argW, semOf .outOwn} := by decide +kernel
  have h4 : semOf .argX ∉ ({semOf .argW, semOf .outOwn} : Finset (Fin 45)) := by decide +kernel
  have h5 : semOf .argW ∉ ({semOf .outOwn} : Finset (Fin 45)) := by decide +kernel
  rw [sems_cover, disjoint_sep h1, disjoint_sep h2, disjoint_sep h3, bigSep_map, bigSep_map, bigSep_map, bigSep_insert h4, bigSep_insert h5, bigSep_singleton]
  rfl

omit [FloatOps F] in
/-- A family over all of a device's semaphores: the barrier's, and the copies'. -/
theorem by_kind (Φ : Option (Fin 45) → sProp (MT nD τ sig Unit (Elt F) ℕ UU ℕ)) : bigSep Finset.univ Φ
    = iprop(Φ none ∗ bigSep Finset.univ fun n : Fin 45 => Φ (some n)) := by
  rw [bigSep_univ_at Φ none, show (Finset.univ : Finset (Option (Fin 45))).erase none = Finset.univ.map Function.Embedding.some from by decide +kernel, bigSep_map]
  rfl

/-! ## The cells and the tokens -/

/-- The kernel's own semaphores. -/
abbrev osem : Fin 45 → SemLoc sig := fun n => .dma n
theorem ownSemFacts : Pipeline.OwnSemFacts cfg0.spec osem := by decide +kernel

theorem kcell_injective : Function.Injective kcell := by
  rintro ⟨c, k⟩ ⟨c', k'⟩ h
  have h1 : c = c' := congrArg (fun g : GSem nD τ sig => g.1.1) h
  have h2 : csem k = csem k' := congrArg Prod.snd h
  subst h1
  rcases k with _ | n <;> rcases k' with _ | n'
  · rfl
  · cases h2
  · cases h2
  · cases h2; rfl

/-- A duty: one of a barrier's three, or the one of a copy's semaphore. -/
abbrev tok : Dev nD × (Fin 3 ⊕ Fin 45) → GSem nD τ sig × ℕ × Fin 3
  | (c, .inl d) => (bar c, 0, d)
  | (c, .inr n) => (kcell (c, some n), 0, 0)
theorem tok_injective : Function.Injective tok := by
  rintro ⟨c, j⟩ ⟨c', j'⟩ h
  rcases j with d | n <;> rcases j' with d' | n'
  · have h1 : c = c' := congrArg (fun x : GSem nD τ sig × ℕ × Fin 3 => x.1.1.1) h
    have h2 : d = d' := congrArg (fun x : GSem nD τ sig × ℕ × Fin 3 => x.2.2) h
    subst h1; subst h2; rfl
  · exact absurd (congrArg (fun x : GSem nD τ sig × ℕ × Fin 3 => x.1.2) h) (fun h' => by cases h')
  · exact absurd (congrArg (fun x : GSem nD τ sig × ℕ × Fin 3 => x.1.2) h) (fun h' => by cases h')
  · have h1 : (c, some n) = (c', some n') := kcell_injective (congrArg Prod.fst h)
    cases h1; rfl

def allCells : Finset (GSem nD τ sig) := Finset.univ.map ⟨kcell, kcell_injective⟩
def allToks : Finset (GSem nD τ sig × ℕ × Fin 3) := Finset.univ.map ⟨tok, tok_injective⟩
def u₀ : UU := (initOf (Pipeline.cells cfgs cellOf_inj) (Pipeline.launchToks cfgs cellOf_inj), initOf allCells allToks)

/-- The tokens of a device's own cells. -/
def toks (c : Dev nD) : sProp 𝕄 :=
  iprop((dutyTok ER (bar c) 0 0 ∗ dutyTok ER (bar c) 0 1 ∗ dutyTok ER (bar c) 0 2) ∗ bigSep Finset.univ fun n : Fin 45 => dutyTok ER (kcell (c, some n)) 0 0)

/-- What the launch element holds of a device's cells. -/
def G (c : Dev nD) : sProp 𝕄 :=
  iprop((bigSep Finset.univ fun k => roundState ER (Rd m) (kcell (c, k)) 0)
    ∗ (bigSep Finset.univ fun k => iprop(atPos ER (kcell (c, k)) 0 ∅ 0 ∗ reached ER (kcell (c, k)) 0)) ∗ toks c)

/-- The tokens a device pays with: those of its signals, of its transfers at both ends, and of its copies. -/
def payToks (c : Dev nD) : sProp 𝕄 :=
  iprop((dutyTok ER (bar (lft c)) 0 0 ∗ dutyTok ER (bar (rgt c)) 0 1 ∗ dutyTok ER (bar (prt c)) 0 2)
    ∗ (bigSep Finset.univ fun t : Fin 14 => dutyTok ER (cell c (.snd t)) 0 0)
    ∗ (bigSep Finset.univ fun t : Fin 14 => dutyTok ER (cell (dst c t) (.rcv t)) 0 0)
    ∗ (bigSep Finset.univ fun t : Fin 14 => dutyTok ER (cell c (.out t)) 0 0)
    ∗ dutyTok ER (cell c .argX) 0 0 ∗ dutyTok ER (cell c .argW) 0 0 ∗ dutyTok ER (cell c .outOwn) 0 0)

/-- Every cell of every device kept by the protocol, at its first round. -/
def Recs : sProp 𝕄 :=
  iprop(∃ K : Dev nD × Option (Fin 45) → ℕ, bigSep Finset.univ fun ck => iprop(cellInv ER (Rd m) (K ck) (kcell ck) ∗ reached ER (kcell ck) 0))
instance Recs_persistent : BI.Persistent (Recs (F := F) m) := by unfold Recs; infer_instance

/-- What a device is dealt. -/
def Dealt (c : Dev nD) : sProp 𝕄 :=
  iprop(Recs m ∗ (atPos ER (bar c) 0 ∅ 0 ∗ bigSep Finset.univ fun n : Fin 45 => atPos ER (kcell (c, some n)) 0 ∅ 0) ∗ payToks c)

theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by
      rw [bigSep_univ_sum, bigSep_univ_eq_bigSepL [0, 1, 2] (by decide) (by decide)]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The barrier's is the one semaphore the kernel does not own. -/
theorem unscoped_eq (c : Dev nD) : (unscopedSems0 c : sProp 𝕄) = semVal (bar c) 0 := by
  unfold unscopedSems0; rw [bigSep_eq_bigSepL_of_eq [SemLoc.reg barrier0] (by decide +kernel) (by decide)]; rfl

omit [FloatOps F] in
theorem sems_eq (c : Dev nD) :
    iprop(Pipeline.ownSems0 (Ix := Unit) (Name := ℕ) (U := UU) (Lvl := ℕ) (Val := Elt F) (τ := τ) osem c ∗ unscopedSems0 c)
      ⊢ (bigSep Finset.univ fun k => semVal (kcell (c, k)) 0 : sProp 𝕄) := by
  rw [by_kind, show (Pipeline.ownSems0 (Ix := Unit) (Name := ℕ) (U := UU) (Lvl := ℕ) (Val := Elt F) (τ := τ) osem c : sProp 𝕄)
    = bigSep Finset.univ fun n : Fin 45 => semVal (kcell (c, some n)) 0 from rfl, unscoped_eq]
  iintro ⟨H, HB⟩
  isplitl [HB]; · iexact HB
  iexact H

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems_eq (F := F) c) $$ [Hos Hus]
  · isplitl [Hos] <;> iassumption
  imod (show iprop((bigSep Finset.univ fun k => semVal (kcell (c, k)) 0) ∗ bigSep Finset.univ fun k => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt around -/

abbrev lftE : Dev nD ≃ Dev nD := ⟨lft, rgt, rgt_lft, lft_rgt⟩
abbrev prtE : Dev nD ≃ Dev nD := ⟨prt, prt, prt_prt, prt_prt⟩

omit [FloatOps F] in
/-- The receive tokens of each transfer, moved to the devices that send it. -/
theorem rcv_around : (bigSep Finset.univ fun c : Dev nD => bigSep Finset.univ fun t : Fin 14 => (dutyTok ER (cell c (.rcv t)) 0 0 : sProp 𝕄))
    = bigSep Finset.univ fun c : Dev nD => bigSep Finset.univ fun t : Fin 14 => dutyTok ER (cell (dst c t) (.rcv t)) 0 0 := by
  rw [exchange, bigSep_congr (s := Finset.univ) fun (t : Fin 14) _ => bigSep_univ_equiv (dstEquiv t) fun c : Dev nD => (dutyTok ER (cell c (.rcv t)) 0 0 : sProp 𝕄)]
  exact exchange _

omit [FloatOps F] in
/-- Every token goes to the device that pays with it. -/
theorem toks_around : (bigSep Finset.univ fun c : Dev nD => (toks c : sProp 𝕄)) ⊢ bigSep Finset.univ fun c : Dev nD => payToks c := by
  have h1 := bigSep_univ_equiv lftE (fun c : Dev nD => (dutyTok ER (bar c) 0 0 : sProp 𝕄))
  have h2 := bigSep_univ_equiv lftE.symm (fun c : Dev nD => (dutyTok ER (bar c) 0 1 : sProp 𝕄))
  have h3 := bigSep_univ_equiv prtE (fun c : Dev nD => (dutyTok ER (bar c) 0 2 : sProp 𝕄))
  unfold toks payToks
  rw [bigSep_congr (s := Finset.univ) fun (c : Dev nD) _ => congrArg (fun R : sProp 𝕄 =>
    iprop((dutyTok ER (bar c) 0 0 ∗ dutyTok ER (bar c) 0 1 ∗ dutyTok ER (bar c) 0 2) ∗ R)) (by_role fun n => (dutyTok ER (kcell (c, some n)) 0 0 : sProp 𝕄))]
  simp only [bigSep_sep']
  rw [h1, h2, h3, rcv_around]
  exact Entails.rfl

omit [FloatOps F] in
/-- What is persistent is given to each. -/
theorem bigSep_give {I : Type} [DecidableEq I] {S : Finset I} {R : sProp (MT nD τ sig Unit (Elt F) ℕ UU ℕ)} [BI.Persistent R] (Φ : I → sProp (MT nD τ sig Unit (Elt F) ℕ UU ℕ)) :
    iprop(R ∗ bigSep S Φ) ⊢ bigSep S fun i => iprop(R ∗ Φ i) := by
  rw [bigSep_sep']
  exact sep_mono_left (BI.bigSep_of_persistent S R)

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (Dealt m) := by
  rw [bigSep_sep', bigSep_sep', ← bigSep_univ_prod (fun ck : Dev nD × Option (Fin 45) => iprop(∃ κ : ℕ, cellInv ER (Rd m) κ (kcell ck))),
    bigSep_congr (s := Finset.univ) (fun (c : Dev nD) _ => bigSep_sep' Finset.univ (fun k => (atPos ER (kcell (c, k)) 0 ∅ 0 : sProp 𝕄)) (fun k => reached ER (kcell (c, k)) 0)),
    bigSep_sep', ← bigSep_univ_prod (fun ck : Dev nD × Option (Fin 45) => (reached ER (kcell ck) 0 : sProp 𝕄)),
    bigSep_congr (s := Finset.univ) (fun (c : Dev nD) _ => by_kind fun k => (atPos ER (kcell (c, k)) 0 ∅ 0 : sProp 𝕄))]
  iintro ⟨HI, ⟨Hat, HR⟩, Htok⟩
  ihave HK := (BI.bigSep_exists_pi Finset.univ (fun (ck : Dev nD × Option (Fin 45)) (κ : ℕ) => (cellInv ER (Rd m) κ (kcell ck) : sProp 𝕄))) $$ HI
  icases HK with ⟨%K, HI⟩
  ihave Htk := (toks_around (F := F)) $$ Htok
  iapply (bigSep_give (R := Recs m) fun c => iprop((atPos ER (bar c) 0 ∅ 0 ∗ bigSep Finset.univ fun n : Fin 45 => atPos ER (kcell (c, some n)) 0 ∅ 0) ∗ payToks c))
  isplitl [HI HR]
  · unfold Recs
    iexists K
    ihave H := (Entails.of_eq (bigSep_sep' Finset.univ (fun ck => (cellInv ER (Rd m) (K ck) (kcell ck) : sProp 𝕄)) (fun ck => reached ER (kcell ck) 0)).symm) $$ [HI HR]
    · isplitl [HI] <;> iassumption
    iexact H
  · ihave H := (Entails.of_eq (bigSep_sep' Finset.univ (fun c : Dev nD => (iprop(atPos ER (bar c) 0 ∅ 0 ∗ bigSep Finset.univ fun n : Fin 45 => atPos ER (kcell (c, some n)) 0 ∅ 0) : sProp 𝕄)) payToks).symm) $$ [Hat Htk]
    · isplitl [Hat]; · iexact Hat
      iexact Htk
    iexact H

/-- All devices' semaphores, given to the protocol at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (Dealt m) :=
  ((bigSep_mono fun c _ => core_alloc m c).trans (bigSep_fupd _ _)).trans (BI.fupd_mono (regroup m))

/-! ## The launch credit -/

theorem cell_ne_bar {c d : Dev nD} {r : Role} : bar c ≠ cell d r := fun h => by
  have := congrArg (fun g : GSem nD τ sig => g.2) h
  cases this
theorem dev_eq_of {c d : Dev nD} {s s' : SemLoc sig} (h : (((c : Thread nD τ), s) : GSem nD τ sig) = ((d : Thread nD τ), s')) : c = d :=
  congrArg (fun g : GSem nD τ sig => g.1.1) h
theorem rcv_inj {c d : Dev nD} {t t' : Fin 14} (h : cell c (.rcv t) = cell d (.rcv t')) : c = d ∧ t = t' := by
  refine ⟨dev_eq_of h, ?_⟩
  have h1 : (SemLoc.dma (semOf (.rcv t)) : SemLoc sig) = .dma (semOf (.rcv t')) := congrArg Prod.snd h
  exact rcvSem.injective (SemLoc.dma.inj h1)

theorem owed_bar (d : Dev nD) (l : List (Fin 14)) (c : Dev nD) : owed d l (bar c) () = 0 := by
  by_contra h
  obtain ⟨t, _, ht⟩ := owed_pos (Nat.pos_of_ne_zero h)
  exact cell_ne_bar ht

/-- What a list of transfers owes a receive cell. -/
theorem owed_rcv (d : Dev nD) (l : List (Fin 14)) (c : Dev nD) (t : Fin 14) :
    owed d l (cell c (.rcv t)) () = l.count t * (if d = src c t then credit (.rcv t) else 0) := by
  induction l with
  | nil => rw [List.count_nil, Nat.zero_mul]; rfl
  | cons t' l ih =>
    show (owed d l + tallyAt (cell (dst d t') (.rcv t')) () (credit (.rcv t'))) (cell c (.rcv t)) () = _
    rw [Pi.add_apply, Finsupp.add_apply, ih, tallyAt_apply, List.count_cons]
    by_cases ht : t' = t
    · subst ht
      have e : (if cell c (.rcv t') = cell (dst d t') (.rcv t') ∧ () = () then credit (.rcv t') else 0) = if d = src c t' then credit (.rcv t') else 0 :=
        if_congr ⟨fun h => by rw [(rcv_inj h.1).1, src_dst], fun h => by rw [h, dst_src]; exact ⟨rfl, rfl⟩⟩ rfl rfl
      rw [e, if_pos (c := (t' == t') = true) (by simp), Nat.add_mul, Nat.one_mul]
    · have e : ¬ (cell c (.rcv t) = cell (dst d t') (.rcv t') ∧ () = ()) := fun h => ht (rcv_inj h.1).2.symm
      have e' : ¬ (t' == t) = true := by simpa using ht
      rw [if_neg e, if_neg e', Nat.add_zero, Nat.add_zero]

theorem all_bar (d c : Dev nD) : O₀ d (bar c) () = (if d = prt c then 1 else 0) + (if d = lft c then 1 else 0) + (if d = rgt c then 1 else 0) := by
  unfold O₀
  simp only [Pi.add_apply, Finsupp.add_apply, owed_bar, tallyAt_apply, Nat.zero_add]
  congr 1
  · congr 1
    · exact if_congr ⟨fun h => by rw [dev_eq_of h.1, prt_prt], fun h => by rw [h, prt_prt]; exact ⟨rfl, trivial⟩⟩ rfl rfl
    · exact if_congr ⟨fun h => by rw [dev_eq_of h.1, lft_rgt], fun h => by rw [h, rgt_lft]; exact ⟨rfl, trivial⟩⟩ rfl rfl
  · exact if_congr ⟨fun h => by rw [dev_eq_of h.1, rgt_lft], fun h => by rw [h, lft_rgt]; exact ⟨rfl, trivial⟩⟩ rfl rfl

theorem all_rcv (d c : Dev nD) (t : Fin 14) : O₀ d (cell c (.rcv t)) () = if d = src c t then credit (.rcv t) else 0 := by
  unfold O₀
  simp only [Pi.add_apply, Finsupp.add_apply, owed_rcv, tallyAt_ne_cell (fun h => cell_ne_bar h.symm), Finsupp.zero_apply, Nat.add_zero]
  rw [show order.count t = 1 from by revert t; decide +kernel, Nat.one_mul]

theorem launch_bar (c : Dev nD) :
    tallyOn (bar c) (launchCredit (Pipeline.owing O₀) 0 (bar c)) = (tallyAt (bar c) () 3 : CellTallies nD τ sig Unit) := by
  unfold tallyAt; refine congrArg _ (Finsupp.ext fun u => ?_); cases u
  rw [Pipeline.launchCredit_owing, Finsupp.single_eq_same, Finset.sum_congr rfl fun d _ => all_bar d c]
  simp only [Finset.sum_add_distrib, Finset.sum_ite_eq', Finset.mem_univ, if_true]

theorem launch_rcv (c : Dev nD) (t : Fin 14) :
    tallyOn (cell c (.rcv t)) (launchCredit (Pipeline.owing O₀) 0 (cell c (.rcv t))) = (tallyAt (cell c (.rcv t)) () (credit (.rcv t)) : CellTallies nD τ sig Unit) := by
  unfold tallyAt; refine congrArg _ (Finsupp.ext fun u => ?_); cases u
  rw [Pipeline.launchCredit_owing, Finsupp.single_eq_same, Finset.sum_congr rfl fun d _ => all_rcv d c t]
  simp only [Finset.sum_ite_eq', Finset.mem_univ, if_true]

/-- The receive semaphores of a device. -/
abbrev rcvLoc : Fin 14 ↪ SemLoc sig := ⟨fun t => .dma (semOf (.rcv t)), fun t t' h => rcvSem.injective (SemLoc.dma.inj h)⟩

omit [FloatOps F] in
/-- The credit of the three signals and of the fourteen pieces that come. -/
theorem creds (c : Dev nD) : (Pipeline.launchCred O₀ c : sProp 𝕄)
    ⊢ iprop(cred (tallyAt (bar c) () 3) ∗ bigSep Finset.univ fun t : Fin 14 => cred (tallyAt (cell c (.rcv t)) () (credit (.rcv t)))) := by
  unfold Pipeline.launchCred
  rw [bigSep_univ_at _ (SemLoc.reg barrier0), launch_bar]
  refine sep_mono_right ((bigSep_subset (t := Finset.univ.map rcvLoc) fun s hs => ?_).trans ?_)
  · obtain ⟨t, -, rfl⟩ := Finset.mem_map.mp hs
    exact Finset.mem_erase.mpr ⟨fun h => (by cases h), Finset.mem_univ _⟩
  · rw [bigSep_map]
    exact bigSep_mono fun t _ => Entails.of_eq (congrArg cred (launch_rcv c t))

end Cert.KProof

end
-- ==== Proof.Launch.lean ====
/-
The launch: the kernel run on all eight devices from any memory with every semaphore at zero.
-/
module

public import proofs.«01_k».proof.Proof.Deal
public import Idealize.ShloMosaic.Lib.Pipeline.CollectiveSegs

@[expose] public section

noncomputable section

namespace Cert.KProof

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## What a device starts from -/

/-- What a device holds besides its scratch buffers when the kernel starts. -/
def Mine : sProp 𝕄 :=
  iprop(Dealt m c ∗ (cred (tallyAt (bar c) () 3) ∗ bigSep Finset.univ fun t : Fin 14 => cred (tallyAt (cell c (.rcv t)) () (credit (.rcv t)))) ∗ levAts L lv
    ∗ Arg0 m c ∗ Arg1 m c ∗ ∃ f : Buf (Elt F) ((c : Thread nD τ).loc main_v1), ((c : Thread nD τ).loc main_v1) ↦{fullShare} f)

/-- The scratch buffers, at any contents. -/
def Scratch : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

omit [FloatOps F] in
/-- A family changed member by member. -/
theorem each_mono {Φ Ψ : Fin 14 → sProp (MT nD τ sig Unit (Elt F) ℕ UU ℕ)} (h : ∀ t, Φ t ⊢ Ψ t) : bigSep Finset.univ Φ ⊢ bigSep Finset.univ Ψ :=
  bigSep_mono fun t _ => h t

omit [FloatOps F] in
/-- Three families joined into one. -/
theorem join3 (Φ Ψ Χ : Fin 14 → sProp (MT nD τ sig Unit (Elt F) ℕ UU ℕ)) :
    bigSep Finset.univ Φ ⊢ iprop(bigSep Finset.univ Ψ -∗ bigSep Finset.univ Χ -∗ bigSep Finset.univ fun t => iprop(Φ t ∗ Ψ t ∗ Χ t)) := by
  rw [bigSep_sep', bigSep_sep']
  iintro H1 H2 H3
  isplitl [H1]; · iexact H1
  isplitl [H2]; · iexact H2
  iexact H3

/-- The gathered array in the own rows and the rows where pieces land. -/
theorem split_g (f : Buf (Elt F) ((c : Thread nD τ).loc cc0_scratch0)) : ((((c : Thread nD τ).loc cc0_scratch0) ↦{fullShare} f) : sProp 𝕄)
    ⊢ iprop((((c : Thread nD τ).loc cc0_scratch0) ↦[rows 1024 (128 * c.val) 128]{fullShare} f) ∗ landF c ∗ landB c ∗ landE c) := by
  iintro H
  ihave H := (tile_g c f).1 $$ H
  icases H with ⟨Ho, H⟩
  ihave H := (show (bigSep Finset.univ fun t : Fin 14 => (((c : Thread nD τ).loc cc0_scratch0) ↦[rows 1024 (64 * got c t) 64]{fullShare} f : sProp 𝕄))
    ⊢ bigSep Finset.univ fun t : Fin 14 => Land c t from each_mono fun t => by
      unfold Land; iintro H; iexists f; iexact H) $$ H
  ihave H := (fourteen _).1 $$ H
  icases H with ⟨H0, H1, H2, H3, H4, H5, H6, H7, H8, H9, H10, H11, H12, H13⟩
  unfold landF landB landE
  isplitl [Ho]; · iexact Ho
  isplitl [H0 H1 H2 H3 H4]
  · isplitl [H0]; · iexact H0
    isplitl [H1]; · iexact H1
    isplitl [H2]; · iexact H2
    isplitl [H3]; · iexact H3
    iexact H4
  isplitl [H5 H6 H7 H8 H9]
  · isplitl [H5]; · iexact H5
    isplitl [H6]; · iexact H6
    isplitl [H7]; · iexact H7
    isplitl [H8]; · iexact H8
    iexact H9
  isplitl [H10]; · iexact H10
  isplitl [H11]; · iexact H11
  isplitl [H12]; · iexact H12
  iexact H13

/-- The products and the result in the rows written at once. -/
theorem split_out (f : Buf (Elt F) ((c : Thread nD τ).loc cc0_scratch2)) (g : Buf (Elt F) ((c : Thread nD τ).loc main_v1)) :
    ((((c : Thread nD τ).loc cc0_scratch2) ↦{fullShare} f) : sProp 𝕄)
    ⊢ iprop((((c : Thread nD τ).loc main_v1) ↦{fullShare} g) -∗ (Blank c (128 * c.val) 128 ∗ bigSep Finset.univ fun t : Fin 14 => Blank c (64 * got c t) 64)) := by
  iintro Hf Hg
  ihave Hf := (tile_o c f).1 $$ Hf
  icases Hf with ⟨Hf, Hfs⟩
  ihave Hg := (tile_v c g).1 $$ Hg
  icases Hg with ⟨Hg, Hgs⟩
  isplitl [Hf Hg]
  · unfold Blank
    isplitl [Hf]; · iexists f; iexact Hf
    iexists g; iexact Hg
  · ihave H := (bigSep_pair Finset.univ (fun t : Fin 14 => (((c : Thread nD τ).loc cc0_scratch2) ↦[rows 128 (64 * got c t) 64]{fullShare} f : sProp (MT nD τ sig Unit (Elt F) ℕ UU ℕ)))
        (fun t : Fin 14 => (((c : Thread nD τ).loc main_v1) ↦[rows 128 (64 * got c t) 64]{fullShare} g))).2 $$ [Hfs Hgs]
    · isplitl [Hfs]; · iexact Hfs
      iexact Hgs
    iapply (show (bigSep Finset.univ fun t : Fin 14 => iprop((((c : Thread nD τ).loc cc0_scratch2) ↦[rows 128 (64 * got c t) 64]{fullShare} f) ∗ (((c : Thread nD τ).loc main_v1) ↦[rows 128 (64 * got c t) 64]{fullShare} g)))
      ⊢ bigSep Finset.univ fun t : Fin 14 => Blank c (64 * got c t) 64 from each_mono fun t => by
        unfold Blank
        iintro ⟨Hf, Hg⟩
        isplitl [Hf]; · iexists f; iexact Hf
        iexists g; iexact Hg) $$ H

omit [FloatOps F] in
/-- The position and the tokens of each transfer. -/
theorem outs_of : (bigSep Finset.univ fun t : Fin 14 => (iprop(atPos ER (cell c (.snd t)) 0 ∅ 0 ∗ dutyTok ER (cell c (.snd t)) 0 0 ∗ dutyTok ER (cell (dst c t) (.rcv t)) 0 0) : sProp 𝕄))
    ⊢ bigSep Finset.univ fun t : Fin 14 => Out c t := each_mono fun t => by
  unfold Out Idle
  iintro ⟨H1, H2, H3⟩
  isplitl [H1 H2]
  · isplitl [H1]; · iexact H1
    iexact H2
  iexact H3

/-- All of it put in order: the records, and what the body starts from. -/
theorem start_of : (iprop(Mine m c ∗ Scratch c ∗ Owes c (O₀ c)) : sProp 𝕄) ⊢ iprop(Rec m ∗ Start m c) := by
  unfold Mine Dealt payToks Scratch
  rw [by_role]
  iintro ⟨⟨⟨Hrec, ⟨Hbat, HaS, HaR, HaO, HaX, HaW, HaP⟩, ⟨HtF, HtB, HtE⟩, HtS, HtR, HtO, HtX, HtW, HtP⟩, ⟨Hbc, Hcr⟩, Hlev, HX, HW, ⟨%fv, Hv⟩⟩, ⟨⟨%fg, Hg⟩, ⟨%fw, Hw⟩, ⟨%fo, Ho⟩⟩, HO⟩
  ihave Hg := (split_g c fg) $$ Hg
  icases Hg with ⟨Hg, HF, HB, HE⟩
  ihave Hb := (split_out c fo fv) $$ Ho Hv
  icases Hb with ⟨Hb, Hbs⟩
  isplitl [Hrec Hlev]
  · unfold Recs Rec
    icases Hrec with ⟨%K, Hrec⟩
    iexists K
    isplitl [Hrec]; · iexact Hrec
    iexact Hlev
  unfold Start Bars
  isplitl [HO]; · iexact HO
  isplitl [HX]; · iexact HX
  isplitl [HW]; · iexact HW
  isplitl [Hw]; · iexists fw; iexact Hw
  isplitl [Hg]; · iexists fg; iexact Hg
  isplitl [HF]; · iexact HF
  isplitl [HB]; · iexact HB
  isplitl [HE]; · iexact HE
  isplitl [Hbat Hbc HtF HtB HtE]
  · isplitl [Hbat]; · iexact Hbat
    isplitl [Hbc]; · iexact Hbc
    isplitl [HtF]; · iexact HtF
    isplitl [HtB]; · iexact HtB
    iexact HtE
  isplitl [HaX HtX]
  · unfold Idle; isplitl [HaX]; · iexact HaX
    iexact HtX
  isplitl [HaW HtW]
  · unfold Idle; isplitl [HaW]; · iexact HaW
    iexact HtW
  isplitl [Hb]; · iexact Hb
  isplitl [HaP HtP]
  · unfold Idle; isplitl [HaP]; · iexact HaP
    iexact HtP
  isplitl [HaS HtS HtR]
  · ihave H := (join3 _ _ _) $$ HaS HtS HtR
    iapply (outs_of c) $$ H
  isplitl [HaR Hcr]
  · ihave H := (bigSep_pair Finset.univ (fun t : Fin 14 => (atPos ER (cell c (.rcv t)) 0 ∅ 0 : sProp (MT nD τ sig Unit (Elt F) ℕ UU ℕ)))
        (fun t : Fin 14 => cred (tallyAt (cell c (.rcv t)) () (credit (.rcv t))))).2 $$ [HaR Hcr]
    · isplitl [HaR]; · iexact HaR
      iexact Hcr
    iexact H
  · ihave H := (join3 _ _ _) $$ Hbs HaO HtO
    iexact H

/-! ## The proof data -/

/-- What is held before the body, and after it. -/
def Φ₀ : sProp 𝕄 := iprop(Mine m c ∗ Scratch c)
def Φ₁ : sProp 𝕄 :=
  iprop((unscopedSems0 c ∗ Arg0 m c ∗ Arg1 m c ∗ (((c : Thread nD τ).loc main_v1) ↦{fullShare} OUT m c))
    ∗ Pipeline.ownSems0 (Ix := Unit) (Name := ℕ) (U := UU) (Lvl := ℕ) (Val := Elt F) (τ := τ) osem c ∗ Scratch c)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

/-- What the body leaves, put in order. -/
theorem end_of : End (F := F) m c ⊢ iprop(Φ₁ m c ∗ Owes c 0) := by
  unfold End Φ₁ Scratch WBuf Over
  rw [show (Pipeline.ownSems0 (Ix := Unit) (Name := ℕ) (U := UU) (Lvl := ℕ) (Val := Elt F) (τ := τ) osem c : sProp 𝕄)
      = bigSep Finset.univ fun n : Fin 45 => semVal (kcell (c, some n)) 0 from rfl, by_role, unscoped_eq]
  iintro ⟨HO, Hzb, Hy, Hz, HzX, HzW, HzO, Hw, HX, HA, HW, Hg, Ho, Hv⟩
  isplitr [HO]
  · isplitl [Hzb HX HA Hv]
    · isplitl [Hzb]; · iexact Hzb
      isplitl [HX]; · iexact HX
      isplitl [HA]; · iexact HA
      iexact Hv
    isplitl [Hy Hz Hw HzX HzW HzO]
    · isplitl [Hy]; · iexact Hy
      isplitl [Hz]; · iexact Hz
      isplitl [Hw]; · iexact Hw
      isplitl [HzX]; · iexact HzX
      isplitl [HzW]; · iexact HzW
      iexact HzO
    isplitl [Hg]; · iexists (XG m); iexact Hg
    isplitl [HW]; · iexists (WV m c); iexact HW
    iexists (OUT m c); iexact Ho
  iexact HO

set_option maxRecDepth 65536 in
/-- The body on any device, as the launch asks it. -/
theorem body_obligation : BodyObligation (dats (F := F) m 0 c) (defs₀ (F := F)) 𝒱₀ () Set.univ := fun t => by
  rw [fin_N0 t]
  show iprop(Φ₀ m c ∗ (dats m 0 c).owesAt () t0_0.castSucc ∗ bigSep (Finset.univ : Finset (Fin 0)) _)
    ⊢ Runs c (bodyAt0 t0_0) fun _ => iprop(Φ₁ m c ∗ (dats m 0 c).owesAt () t0_0.succ ∗ bigSep (Finset.univ : Finset (Fin 0)) _)
  unfold Dat.owesAt Pipeline.owesWithin Φ₀
  rw [show (dats m 0 c).owed t0_0.castSucc = O₀ c from rfl, show (dats m 0 c).owed t0_0.succ = 0 from rfl]
  iintro ⟨⟨HM, HS⟩, ⟨%W, %hW, HO⟩, He⟩
  ihave H := (start_of m c) $$ [HM HS HO]
  · isplitl [HM]; · iexact HM
    isplitl [HS]; · iexact HS
    unfold Owes; iexists W; iexact HO
  icases H with ⟨#HR, HSt⟩
  iapply (run_body m c _) $$ HR HSt
  iintro HE
  ihave HE := (end_of m c) $$ HE
  icases HE with ⟨H1, HO⟩
  unfold Owes
  icases HO with ⟨%W', HO⟩
  isplitl [H1]; · iexact H1
  isplitl [HO]
  · iexists W'
    isplitr; · ipureintro; exact fun _ _ => Or.inl trivial
    iexact HO
  · iexact He

/-! ## The side conditions -/

theorem mine_intro :
    iprop(Pipeline.unscopedRestP Pipeline.Prefetch.none cfg0.spec c (fun b => m ((c : Thread nD τ).loc b)) ∗ levAts L lv
        ∗ Pipeline.launchCred O₀ c ∗ prngReg c (ρ c) ∗ Dealt m c)
      ⊢ |={Set.univ}=> iprop(Mine m c ∗ emp) := by
  rw [Pipeline.unscopedRestP_none, unscopedRest0_eq]
  iintro ⟨⟨HX, HW, Hv⟩, Hlev, Hcr, -, HD⟩
  ihave Hc := (creds (F := F) c) $$ Hcr
  imodintro
  unfold Mine Arg0 Arg1
  isplitl
  · isplitl [HD]; · iexact HD
    isplitl [Hc]; · iexact Hc
    isplitl [Hlev]; · iexact Hlev
    isplitl [HX]; · iexact HX
    isplitl [HW]; · iexact HW
    iexists (m ((c : Thread nD τ).loc main_v1)); iexact Hv
  · iempintro

theorem phi0_intro :
    iprop(Mine m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ Scratch
  iintro ⟨Hs, -, H⟩
  isplitl [Hs]; · iexact Hs
  iexact H

/-- What a device is left with outside the kernel's own buffers and semaphores. -/
def Left : sProp 𝕄 := iprop(unscopedSems0 c ∗ Arg0 m c ∗ Arg1 m c ∗ (((c : Thread nD τ).loc main_v1) ↦{fullShare} OUT m c))

theorem phi1_exit : (dats m 0 c).Φ (Fin.last cfg0.N) ⊢ iprop(Left m c ∗ Pipeline.ownSems0 osem c ∗ Pipeline.scopedRest cfg0.spec c) := by
  rw [show (dats m 0 c).Φ (Fin.last cfg0.N) = Φ₁ m c from rfl, scopedRest0_eq]
  unfold Φ₁ Scratch Left
  exact Entails.rfl

theorem waits : (levAts L lv : sProp 𝕄) ⊢ Pipeline.cellsWaits cfgs (dats m) () 0 c :=
  Pipeline.cellsWaits_intro cfgs (dats m) () 0 c fun w => w.elim0

/-- What a final memory holds on a device: the result, the arguments as they were, the barrier's counter at zero. -/
def Final (s : MemSt nD τ sig (Elt F)) : Prop :=
  (s.mem ((c : Thread nD τ).loc main_v1) = OUT m c ∧ s.mem ((c : Thread nD τ).loc main_arg0) = m ((c : Thread nD τ).loc main_arg0)
    ∧ s.mem ((c : Thread nD τ).loc main_arg1) = m ((c : Thread nD τ).loc main_arg1))
  ∧ ∀ sm : SemLoc sig, sm.isScoped .tc = false → s.sem ((c.tc : Thread nD τ), sm) = 0

omit [FloatOps F] in
/-- A buffer held whole is what the memory holds. -/
theorem read_whole {ℓ : Loc nD τ sig} (f : Buf (Elt F) ℓ) (s' : Phys nD τ sig (Elt F)) :
    (iprop(SI s' ∗ (ℓ ↦{fullShare} f)) : sProp 𝕄) ⊢ ⌜s'.mem.mem ℓ = f⌝ :=
  SI_pointsTo_agree.trans (Laws.pure_mono fun h => funext fun i => h i (Finset.mem_univ i))

theorem final_read (s' : Phys nD τ sig (Elt F)) :
    (iprop(Left m c ∗ emp ∗ SI s') : sProp 𝕄) ⊢ |={Set.univ}=> iprop(⌜Final m c s'.mem⌝ ∗ SI s') := by
  unfold Left Arg0 Arg1
  iintro ⟨⟨Hz, HX, HW, Hv⟩, -, HSI⟩
  ihave %h1 := (read_whole (F := F) _ s') $$ [HSI Hv]
  · isplitl [HSI] <;> iassumption
  ihave %h2 := (read_whole (F := F) _ s') $$ [HSI HX]
  · isplitl [HSI] <;> iassumption
  ihave %h3 := (read_whole (F := F) _ s') $$ [HSI HW]
  · isplitl [HSI] <;> iassumption
  imod (Pipeline.unscopedSems0_read (X := unscopedSems0 c) (c := c) fupd_intro s') $$ [Hz HSI] with ⟨%h4, HSI⟩
  · isplitl [Hz] <;> iassumption
  imodintro
  isplitr; · ipureintro; exact ⟨⟨h1, h2, h3⟩, h4⟩
  iexact HSI

/-! ## The run -/

set_option maxRecDepth 8000 in
/-- From any memory whose counters are zero, and for any float values, the eight kernels run to their ends however they
    are interleaved; then each device's result is `OUT`, its arguments are what they were, and every counter is zero. -/
theorem run_main : θ_run defs (onTc (τ := τ) (main (F := F))) (s₀ m ρ) (fun r => (∀ c : Dev nD,
    r.2.mem ((c : Thread nD τ).loc main_v1) = OUT m c ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := fun w => w.elim0)
    (O₀ := O₀) (howed₀ := fun _ => rfl) (howedN := fun _ => rfl)
    (L := L) (lv := lv) (hL := L_of_ne) (hwaits := waits m)
    (G := G m) (G' := Dealt m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ w => w.elim0) (hpf := fun _ k => k.elim0)
    (X := Mine m) (Y := Left m) (Z := fun _ => iprop(emp))
    (hX := mine_intro m ρ) (hin := phi0_intro m) (hout := phi1_exit m)
    (QY := Final m) (hY := final_read m)
    (hQ := fun _ h hs => ⟨fun c => (h c).2.2.1, sem_eq_zero hs fun c => (h c).2.2.2⟩)

end Cert.KProof

end
-- ==== Proof.Block.lean ====
/-
What one block of the kernel's result is: for a block of rows of the gathered array and the device's columns of the weights,
each entry is the positive part of a row times a column, as a sum over the 1024 products.
-/
module

public import proofs.«01_k».proof.Proof.Arrays
public import Idealize.ShloMosaic.Lib.MatmulPlain
public import Idealize.ShloMosaic.Lib.IdealHost
public import Idealize.ShloMosaic.Lib.Pipeline.Value
public import Idealize.ShloMosaic.Lib.ValueIdx

@[expose] public section

noncomputable section

namespace Cert.KProof

open Cert.KernelIdeal Cert.KernelIdeal.Gen
open Idealize.ShloMosaic Idealize.ShloMosaic.TcCoe Idealize.ShloMosaic.ValueIdx
open Idealize.SL Idealize.SL.Sem

/-- The positive part of the product of a row `f` and a column `g` of 1024 entries each. -/
def reluDot (f g : Fin 1024 → EReal) : EReal := max (∑ k : Fin 1024, f k * g k) 0

/-- A product of `n` rows with 128 columns, added to zeros and clipped below at zero, holds at row `r` and column `j` the
    positive part of row `r` times column `j`. -/
theorem block_entry {n : ℕ} (x : FVec Ideal ⟨2, ![n, 1024]⟩ .f32) (w : FVec Ideal ⟨2, ![1024, 128]⟩ .f32) (r : Fin n) (j : Fin 128) :
    maximumf (matmul (DotDims.plain n 1024 128) none x w (constant ⟨2, ![n, 128]⟩ .f32 0x00000000#32))
        (broadcast ⟨2, ![n, 128]⟩ (Scalar.ofBits (F := Ideal) .f32 0x00000000#32)) (ix2 r j)
      = reluDot (fun k => x (ix2 r k)) (fun k => w (ix2 k j)) := by
  have hz : (Scalar.ofBits (F := Ideal) .f32 0x00000000#32 : EReal) = 0 := Ideal.ofBits_zero_f32
  have hm := Ideal.matmul_plain_apply (M := n) (K := 1024) (N := 128) none x w (constant ⟨2, ![n, 128]⟩ .f32 0x00000000#32) r j
  have hc : (constant (F := Ideal) ⟨2, ![n, 128]⟩ .f32 0x00000000#32 (ix2 r j) : EReal) = 0 := Ideal.ofBits_zero_f32
  rw [hc, zero_add] at hm
  show max _ (Scalar.ofBits (F := Ideal) .f32 0x00000000#32 : EReal) = _
  rw [hz]
  exact congrArg (fun y : EReal => max y 0) hm

/-- The block of a device's own 128 rows, entry by entry. -/
theorem pay1_entry (x : Vec Ideal S128x1024 .f32) (w : Vec Ideal S1024x128 .f32) (r : Fin 128) (j : Fin 128) :
    k0_pay1 (F := Ideal) x w (ix2 r j) = reluDot (fun k => x (ix2 r k)) (fun k => w (ix2 k j)) :=
  (congrFun (shapeCast_self _ _) _).trans (block_entry x w r j)

/-- The block of one received piece of 64 rows, entry by entry. -/
theorem pay2_entry (x : Vec Ideal S64x1024 .f32) (w : Vec Ideal S1024x128 .f32) (r : Fin 64) (j : Fin 128) :
    k0_pay2 (F := Ideal) x w (ix2 r j) = reluDot (fun k => x (ix2 r k)) (fun k => w (ix2 k j)) :=
  (congrFun (shapeCast_self _ _) _).trans (block_entry x w r j)

end Cert.KProof

end
-- ==== Proof.Whole.lean ====
/-
What the result array of one device holds, entry by entry: whichever block a row was computed in, its entries are the
positive parts of that row of the gathered array times the device's columns of the weights.
-/
module

public import proofs.«01_k».proof.Proof.Block

@[expose] public section

noncomputable section

namespace Cert.KProof

open Cert.KernelIdeal Cert.KernelIdeal.Gen
open Idealize.ShloMosaic Idealize.ShloMosaic.TcCoe Idealize.ShloMosaic.ValueIdx
open Idealize.SL Idealize.SL.Sem

/-- Entry `i` of the result of device `c`: row `i 0` of the gathered array times column `i 1` of its weights, clipped. -/
theorem OUT_entry (m : (ℓ : Loc nD τ sig) → Buf (Elt Ideal) ℓ) (c : Dev nD) (i : S1024x128.Idx) :
    OUT m c i = reluDot (fun k => xrow m (i 0).val k) (fun k => WV m c (ix2 k (i 1))) := by
  unfold OUT
  split_ifs with h
  · refine (pay1_entry _ _ _ _).trans ?_
    have e : 128 * c.val + (i 0).val % 128 = (i 0).val := by omega
    exact congrArg (fun r => reluDot (fun k => xrow m r k) (fun k => WV m c (ix2 k (i 1)))) e
  · refine (pay2_entry _ _ _ _).trans ?_
    have e : 64 * ((i 0).val / 64) + (i 0).val % 64 = (i 0).val := by omega
    exact congrArg (fun r => reluDot (fun k => xrow m r k) (fun k => WV m c (ix2 k (i 1)))) e

end Cert.KProof

end
-- ==== Proof.Reference.lean ====
/-
What the reference computes: the whole product of the two arrays, clipped below at zero, entry by entry.
-/
module

public import proofs.«01_k».proof.Proof.Block
public import proofs.«01_k».proof.Proof.Gen.ReferenceIdeal.Run
public import Idealize.ShloMosaic.Lib.StackMember

@[expose] public section

noncomputable section

namespace Cert.KProof

open Cert.ReferenceIdeal Cert.ReferenceIdeal.Gen
open Idealize.ShloMosaic Idealize.ShloMosaic.TcCoe Idealize.ShloMosaic.ValueIdx
open Idealize.SL Idealize.SL.Sem

/-- The reference's result on the whole arrays `x` and `w`, as its operations compose it. -/
def refOut (x w : FVec Ideal S1024x1024 .f32) : FVec Ideal S1024x1024 .f32 :=
  maximumf (Host.dotGeneral dot_S1024x1024_S1024x1024_S1024x1024_1_0_0_1_n_n none x w)
    (broadcastInDim S1024x1024 ![] bcast_S_S1024x1024 (constant S_ .f32 0x00000000#32))

/-- Entry `(r, j)` of it is the positive part of row `r` of `x` times column `j` of `w`. -/
theorem refOut_entry (x w : FVec Ideal S1024x1024 .f32) (r j : Fin 1024) :
    refOut x w (ix2 r j) = reluDot (fun k => x (ix2 r k)) (fun k => w (ix2 k j)) := by
  have hz : (broadcastInDim S1024x1024 ![] bcast_S_S1024x1024 (constant (F := Ideal) S_ .f32 0x00000000#32) (ix2 r j) : EReal) = 0 :=
    (broadcastInDim_scalar_apply bcast_S_S1024x1024 _ _).trans Ideal.ofBits_zero_f32
  refine (congrArg (fun y : EReal => max _ y) hz).trans ?_
  exact congrArg (fun y : EReal => max y 0) (StackMember.dotGeneral_plain_apply none x w r j)

end Cert.KProof

end
-- ==== Proof.Equation.lean ====
/-
The equation: where each device's first argument is its 128 rows of one whole array and its second argument its 128 columns
of another, each device's result is its 128 columns of what the reference computes on the two whole arrays.
-/
module

public import proofs.«01_k».proof.Proof.Whole
public import proofs.«01_k».proof.Proof.Reference
public import Idealize.ShloMosaic.Lib.Layout

@[expose] public section

noncomputable section

namespace Cert.KProof

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (X W : FVec Ideal ⟨2, ![1024, 1024]⟩ .f32)

/-- Gathered from the devices' blocks of rows, the array is the whole one. -/
theorem xrow_whole (hX : ∀ c : Dev nD, m ((c : Thread nD τ).loc main_arg0) = Layout.block ⟨2, ![128, 1024]⟩ ⟨2, ![1024, 1024]⟩ 0 8 c X)
    (r k : Fin 1024) : xrow m r.val k = X (ix2 r k) := by
  unfold xrow
  rw [hX]
  refine congrArg X (funext fun a => Fin.ext ?_)
  have hr := r.isLt
  match a with
  | ⟨0, _⟩ => show r.val / 128 % 8 * 128 + r.val % 128 = r.val; omega
  | ⟨1, _⟩ => rfl

/-- The result of device `c` is block `c`, by columns, of the reference's result on the whole arrays. -/
theorem OUT_block
    (hX : ∀ c : Dev nD, m ((c : Thread nD τ).loc main_arg0) = Layout.block ⟨2, ![128, 1024]⟩ ⟨2, ![1024, 1024]⟩ 0 8 c X)
    (hW : ∀ c : Dev nD, m ((c : Thread nD τ).loc main_arg1) = Layout.block ⟨2, ![1024, 128]⟩ ⟨2, ![1024, 1024]⟩ 1 8 c W) (c : Dev nD) :
    OUT m c = Layout.block ⟨2, ![1024, 128]⟩ ⟨2, ![1024, 1024]⟩ 1 8 c (refOut X W) := by
  funext i
  have ht : Layout.Tiles ⟨2, ![1024, 128]⟩ ⟨2, ![1024, 1024]⟩ 1 8 := by decide
  have hcol : c.val * 128 + (i 1).val < 1024 := by
    have h1 : (i 1).val < 128 := (i 1).isLt
    have h2 : c.val < 8 := c.isLt
    omega
  have hi : ht.idx c i = ix2 (i 0) ⟨c.val * 128 + (i 1).val, hcol⟩ := by
    funext a; apply Fin.ext
    match a with
    | ⟨0, _⟩ => rfl
    | ⟨1, _⟩ => rfl
  have href := (congrArg (refOut X W) hi).trans (refOut_entry X W (i 0) ⟨c.val * 128 + (i 1).val, hcol⟩)
  refine (OUT_entry m c i).trans (Eq.trans ?_ href.symm)
  refine congrArg₂ reluDot (funext fun k => xrow_whole m X hX (i 0) k) (funext fun k => ?_)
  unfold WV
  rw [hW]
  refine congrArg W (funext fun a => Fin.ext ?_)
  match a with
  | ⟨0, _⟩ => rfl
  | ⟨1, _⟩ => rfl

end Cert.KProof

end
-- ==== Proof.lean ====
/-
The claims, assembled: the run of the kernel (Launch.lean, for any float values) gives both of its frames; the reference is a
straight line of host operations; and the equation (Equation.lean) joins the two results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel on words runs to its end on every device, keeps its arguments and leaves every counter at zero. -/
theorem frame_kernel : Cert.quiescent_Kernel := fun m ρ _ =>
  (θ_run Cert.KernelIdeal.defs _ _).mono (fun _ h => ⟨fun c => (h.1 c).2, h.2⟩) (Cert.KProof.run_main (F := Bits) m ρ)

/-- So does the kernel in exact arithmetic. -/
theorem frame_kernelIdeal : Cert.quiescent_KernelIdeal := fun m ρ _ =>
  (θ_run Cert.KernelIdeal.defs _ _).mono (fun _ h => ⟨fun c => (h.1 c).2, h.2⟩) (Cert.KProof.run_main (F := Ideal) m ρ)

/-- And the reference, which has no semaphore at all. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- No operation of the kernel was replaced. -/
theorem preserves : Cert.preserves_Kernel_KernelIdeal := trivial

/-- In exact arithmetic the devices' results are the blocks, by columns, of the reference's result on the whole arrays. -/
theorem algebraic : Cert.algebraic_KernelIdeal_ReferenceIdeal := fun m ρ m' ρ' _ hagree =>
  ⟨Cert.KProof.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(h.1 c).1.trans (Cert.KProof.OUT_block m _ _ (fun d => (hagree d).1) (fun d => (hagree d).2) c), (h.1 c).2⟩)
      (Cert.KProof.run_main (F := Ideal) m ρ),
    (θ_run Cert.ReferenceIdeal.defs _ _).mono (fun _ h => h 0) (Cert.ReferenceIdeal.Value.run (F := Ideal) m' ρ')⟩

/-- All five claims. -/
theorem claim : Cert.Claim :=
  ⟨Cert.Kernel.Gen.facts, Cert.KernelIdeal.Gen.facts, Cert.ReferenceIdeal.Gen.facts,
    frame_kernel, frame_kernelIdeal, frame_referenceIdeal, preserves, algebraic⟩

end Cert.Proof

end
